-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S512x1024 : Shape := ⟨2, ![512, 1024]⟩
abbrev S2x256x1024 : Shape := ⟨3, ![2, 256, 1024]⟩
abbrev S1x1024 : Shape := ⟨2, ![1, 1024]⟩
abbrev S8x1x1024 : Shape := ⟨3, ![8, 1, 1024]⟩
abbrev S8 : Shape := ⟨1, ![8]⟩
abbrev S2 : Shape := ⟨1, ![2]⟩
abbrev S_ : Shape := ⟨0, ![]⟩
abbrev S1 : Shape := ⟨1, ![1]⟩
abbrev S256x1024 : Shape := ⟨2, ![256, 1024]⟩
abbrev S1x2048 : Shape := ⟨2, ![1, 2048]⟩
abbrev S1x1x1024 : Shape := ⟨3, ![1, 1, 1024]⟩
abbrev S256x256 : Shape := ⟨2, ![256, 256]⟩
abbrev S1x256x1024 : Shape := ⟨3, ![1, 256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S512x1024, .f32⟩
  | .local _ .vmem, ⟨2, _⟩ => ⟨S2x256x1024, .f32⟩
  | .local _ .vmem, ⟨3, _⟩ => ⟨S1x1024, .f32⟩
  | .local _ .vmem, ⟨4, _⟩ => ⟨S8x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 2 26 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 1

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_369 : BitVec 32 := 0#32
  let c0_i32_367 : BitVec 32 := 0#32
  let c1_i32_368 : BitVec 32 := 1#32
  let v430 : BitVec 32 := Scalar.muli c0_i32_367 c1_i32_368
  let v431 : BitVec 32 := Scalar.addi c0_i32_369 v430
  v431.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_369 : BitVec 32 := 0#32
  let c1_i32_367 : BitVec 32 := 1#32
  let c1_i32_368 : BitVec 32 := 1#32
  let v430 : BitVec 32 := Scalar.muli c1_i32_367 c1_i32_368
  let v431 : BitVec 32 := Scalar.addi c0_i32_369 v430
  v431.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_369 : BitVec 32 := 0#32
  let c2_i32_367 : BitVec 32 := 2#32
  let c1_i32_368 : BitVec 32 := 1#32
  let v430 : BitVec 32 := Scalar.muli c2_i32_367 c1_i32_368
  let v431 : BitVec 32 := Scalar.addi c0_i32_369 v430
  v431.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_369 : BitVec 32 := 0#32
  let c3_i32_367 : BitVec 32 := 3#32
  let c1_i32_368 : BitVec 32 := 1#32
  let v430 : BitVec 32 := Scalar.muli c3_i32_367 c1_i32_368
  let v431 : BitVec 32 := Scalar.addi c0_i32_369 v430
  v431.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_369 : BitVec 32 := 0#32
  let c4_i32_367 : BitVec 32 := 4#32
  let c1_i32_368 : BitVec 32 := 1#32
  let v430 : BitVec 32 := Scalar.muli c4_i32_367 c1_i32_368
  let v431 : BitVec 32 := Scalar.addi c0_i32_369 v430
  v431.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_369 : BitVec 32 := 0#32
  let c5_i32_367 : BitVec 32 := 5#32
  let c1_i32_368 : BitVec 32 := 1#32
  let v430 : BitVec 32 := Scalar.muli c5_i32_367 c1_i32_368
  let v431 : BitVec 32 := Scalar.addi c0_i32_369 v430
  v431.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_369 : BitVec 32 := 0#32
  let c6_i32_367 : BitVec 32 := 6#32
  let c1_i32_368 : BitVec 32 := 1#32
  let v430 : BitVec 32 := Scalar.muli c6_i32_367 c1_i32_368
  let v431 : BitVec 32 := Scalar.addi c0_i32_369 v430
  v431.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_369 : BitVec 32 := 0#32
  let c7_i32_367 : BitVec 32 := 7#32
  let c1_i32_368 : BitVec 32 := 1#32
  let v430 : BitVec 32 := Scalar.muli c7_i32_367 c1_i32_368
  let v431 : BitVec 32 := Scalar.addi c0_i32_369 v430
  v431.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v98 : BitVec 1 := Scalar.cmpi .eq v2 c0_i32_87
  let v99 : BitVec 32 := Scalar.extui v98
  let c0_i32_88 : BitVec 32 := 0#32
  let v100 : BitVec 1 := Scalar.cmpi .ne v99 c0_i32_88
  v100

def k0_dev9 : Nat :=
  let c0_i32_371 : BitVec 32 := 0#32
  let c1_i32_369 : BitVec 32 := 1#32
  let c1_i32_370 : BitVec 32 := 1#32
  let v430 : BitVec 32 := Scalar.muli c1_i32_369 c1_i32_370
  let v431 : BitVec 32 := Scalar.addi c0_i32_371 v430
  v431.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_89 : BitVec 32 := 0#32
  let v101 : BitVec 1 := Scalar.cmpi .eq v2 c0_i32_89
  let v102 : BitVec 32 := Scalar.extui v101
  let c0_i32_90 : BitVec 32 := 0#32
  let v103 : BitVec 1 := Scalar.cmpi .ne v102 c0_i32_90
  v103

def k0_dev10 : Nat :=
  let c0_i32_371 : BitVec 32 := 0#32
  let c2_i32_369 : BitVec 32 := 2#32
  let c1_i32_370 : BitVec 32 := 1#32
  let v430 : BitVec 32 := Scalar.muli c2_i32_369 c1_i32_370
  let v431 : BitVec 32 := Scalar.addi c0_i32_371 v430
  v431.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let v104 : BitVec 1 := Scalar.cmpi .eq v2 c0_i32_91
  let v105 : BitVec 32 := Scalar.extui v104
  let c0_i32_92 : BitVec 32 := 0#32
  let v106 : BitVec 1 := Scalar.cmpi .ne v105 c0_i32_92
  v106

def k0_dev11 : Nat :=
  let c0_i32_371 : BitVec 32 := 0#32
  let c3_i32_369 : BitVec 32 := 3#32
  let c1_i32_370 : BitVec 32 := 1#32
  let v430 : BitVec 32 := Scalar.muli c3_i32_369 c1_i32_370
  let v431 : BitVec 32 := Scalar.addi c0_i32_371 v430
  v431.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v107 : BitVec 1 := Scalar.cmpi .eq v2 c0_i32_93
  let v108 : BitVec 32 := Scalar.extui v107
  let c0_i32_94 : BitVec 32 := 0#32
  let v109 : BitVec 1 := Scalar.cmpi .ne v108 c0_i32_94
  v109

def k0_dev12 : Nat :=
  let c0_i32_371 : BitVec 32 := 0#32
  let c4_i32_369 : BitVec 32 := 4#32
  let c1_i32_370 : BitVec 32 := 1#32
  let v430 : BitVec 32 := Scalar.muli c4_i32_369 c1_i32_370
  let v431 : BitVec 32 := Scalar.addi c0_i32_371 v430
  v431.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let v110 : BitVec 1 := Scalar.cmpi .eq v2 c0_i32_95
  let v111 : BitVec 32 := Scalar.extui v110
  let c0_i32_96 : BitVec 32 := 0#32
  let v112 : BitVec 1 := Scalar.cmpi .ne v111 c0_i32_96
  v112

def k0_dev13 : Nat :=
  let c0_i32_371 : BitVec 32 := 0#32
  let c5_i32_369 : BitVec 32 := 5#32
  let c1_i32_370 : BitVec 32 := 1#32
  let v430 : BitVec 32 := Scalar.muli c5_i32_369 c1_i32_370
  let v431 : BitVec 32 := Scalar.addi c0_i32_371 v430
  v431.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_97 : BitVec 32 := 0#32
  let v113 : BitVec 1 := Scalar.cmpi .eq v2 c0_i32_97
  let v114 : BitVec 32 := Scalar.extui v113
  let c0_i32_98 : BitVec 32 := 0#32
  let v115 : BitVec 1 := Scalar.cmpi .ne v114 c0_i32_98
  v115

def k0_dev14 : Nat :=
  let c0_i32_371 : BitVec 32 := 0#32
  let c6_i32_369 : BitVec 32 := 6#32
  let c1_i32_370 : BitVec 32 := 1#32
  let v430 : BitVec 32 := Scalar.muli c6_i32_369 c1_i32_370
  let v431 : BitVec 32 := Scalar.addi c0_i32_371 v430
  v431.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_99 : BitVec 32 := 0#32
  let v116 : BitVec 1 := Scalar.cmpi .eq v2 c0_i32_99
  let v117 : BitVec 32 := Scalar.extui v116
  let c0_i32_100 : BitVec 32 := 0#32
  let v118 : BitVec 1 := Scalar.cmpi .ne v117 c0_i32_100
  v118

def k0_dev15 : Nat :=
  let c0_i32_371 : BitVec 32 := 0#32
  let c7_i32_369 : BitVec 32 := 7#32
  let c1_i32_370 : BitVec 32 := 1#32
  let v430 : BitVec 32 := Scalar.muli c7_i32_369 c1_i32_370
  let v431 : BitVec 32 := Scalar.addi c0_i32_371 v430
  v431.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v119 : BitVec 1 := Scalar.cmpi .eq v2 c1_i32_101
  let v120 : BitVec 32 := Scalar.extui v119
  let c0_i32_102 : BitVec 32 := 0#32
  let v121 : BitVec 1 := Scalar.cmpi .ne v120 c0_i32_102
  v121

def k0_dev16 : Nat :=
  let c0_i32_371 : BitVec 32 := 0#32
  let c2_i32_369 : BitVec 32 := 2#32
  let c1_i32_370 : BitVec 32 := 1#32
  let v430 : BitVec 32 := Scalar.muli c2_i32_369 c1_i32_370
  let v431 : BitVec 32 := Scalar.addi c0_i32_371 v430
  v431.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v122 : BitVec 1 := Scalar.cmpi .eq v2 c1_i32_103
  let v123 : BitVec 32 := Scalar.extui v122
  let c0_i32_104 : BitVec 32 := 0#32
  let v124 : BitVec 1 := Scalar.cmpi .ne v123 c0_i32_104
  v124

def k0_dev17 : Nat :=
  let c0_i32_371 : BitVec 32 := 0#32
  let c3_i32_369 : BitVec 32 := 3#32
  let c1_i32_370 : BitVec 32 := 1#32
  let v430 : BitVec 32 := Scalar.muli c3_i32_369 c1_i32_370
  let v431 : BitVec 32 := Scalar.addi c0_i32_371 v430
  v431.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_105 : BitVec 32 := 1#32
  let v125 : BitVec 1 := Scalar.cmpi .eq v2 c1_i32_105
  let v126 : BitVec 32 := Scalar.extui v125
  let c0_i32_106 : BitVec 32 := 0#32
  let v127 : BitVec 1 := Scalar.cmpi .ne v126 c0_i32_106
  v127

def k0_dev18 : Nat :=
  let c0_i32_371 : BitVec 32 := 0#32
  let c4_i32_369 : BitVec 32 := 4#32
  let c1_i32_370 : BitVec 32 := 1#32
  let v430 : BitVec 32 := Scalar.muli c4_i32_369 c1_i32_370
  let v431 : BitVec 32 := Scalar.addi c0_i32_371 v430
  v431.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_107 : BitVec 32 := 1#32
  let v128 : BitVec 1 := Scalar.cmpi .eq v2 c1_i32_107
  let v129 : BitVec 32 := Scalar.extui v128
  let c0_i32_108 : BitVec 32 := 0#32
  let v130 : BitVec 1 := Scalar.cmpi .ne v129 c0_i32_108
  v130

def k0_dev19 : Nat :=
  let c0_i32_371 : BitVec 32 := 0#32
  let c5_i32_369 : BitVec 32 := 5#32
  let c1_i32_370 : BitVec 32 := 1#32
  let v430 : BitVec 32 := Scalar.muli c5_i32_369 c1_i32_370
  let v431 : BitVec 32 := Scalar.addi c0_i32_371 v430
  v431.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_109 : BitVec 32 := 1#32
  let v131 : BitVec 1 := Scalar.cmpi .eq v2 c1_i32_109
  let v132 : BitVec 32 := Scalar.extui v131
  let c0_i32_110 : BitVec 32 := 0#32
  let v133 : BitVec 1 := Scalar.cmpi .ne v132 c0_i32_110
  v133

def k0_dev20 : Nat :=
  let c0_i32_371 : BitVec 32 := 0#32
  let c6_i32_369 : BitVec 32 := 6#32
  let c1_i32_370 : BitVec 32 := 1#32
  let v430 : BitVec 32 := Scalar.muli c6_i32_369 c1_i32_370
  let v431 : BitVec 32 := Scalar.addi c0_i32_371 v430
  v431.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_111 : BitVec 32 := 1#32
  let v134 : BitVec 1 := Scalar.cmpi .eq v2 c1_i32_111
  let v135 : BitVec 32 := Scalar.extui v134
  let c0_i32_112 : BitVec 32 := 0#32
  let v136 : BitVec 1 := Scalar.cmpi .ne v135 c0_i32_112
  v136

def k0_dev21 : Nat :=
  let c0_i32_371 : BitVec 32 := 0#32
  let c7_i32_369 : BitVec 32 := 7#32
  let c1_i32_370 : BitVec 32 := 1#32
  let v430 : BitVec 32 := Scalar.muli c7_i32_369 c1_i32_370
  let v431 : BitVec 32 := Scalar.addi c0_i32_371 v430
  v431.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_113 : BitVec 32 := 2#32
  let v137 : BitVec 1 := Scalar.cmpi .eq v2 c2_i32_113
  let v138 : BitVec 32 := Scalar.extui v137
  let c0_i32_114 : BitVec 32 := 0#32
  let v139 : BitVec 1 := Scalar.cmpi .ne v138 c0_i32_114
  v139

def k0_dev22 : Nat :=
  let c0_i32_371 : BitVec 32 := 0#32
  let c3_i32_369 : BitVec 32 := 3#32
  let c1_i32_370 : BitVec 32 := 1#32
  let v430 : BitVec 32 := Scalar.muli c3_i32_369 c1_i32_370
  let v431 : BitVec 32 := Scalar.addi c0_i32_371 v430
  v431.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_115 : BitVec 32 := 2#32
  let v140 : BitVec 1 := Scalar.cmpi .eq v2 c2_i32_115
  let v141 : BitVec 32 := Scalar.extui v140
  let c0_i32_116 : BitVec 32 := 0#32
  let v142 : BitVec 1 := Scalar.cmpi .ne v141 c0_i32_116
  v142

def k0_dev23 : Nat :=
  let c0_i32_371 : BitVec 32 := 0#32
  let c4_i32_369 : BitVec 32 := 4#32
  let c1_i32_370 : BitVec 32 := 1#32
  let v430 : BitVec 32 := Scalar.muli c4_i32_369 c1_i32_370
  let v431 : BitVec 32 := Scalar.addi c0_i32_371 v430
  v431.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_117 : BitVec 32 := 2#32
  let v143 : BitVec 1 := Scalar.cmpi .eq v2 c2_i32_117
  let v144 : BitVec 32 := Scalar.extui v143
  let c0_i32_118 : BitVec 32 := 0#32
  let v145 : BitVec 1 := Scalar.cmpi .ne v144 c0_i32_118
  v145

def k0_dev24 : Nat :=
  let c0_i32_371 : BitVec 32 := 0#32
  let c5_i32_369 : BitVec 32 := 5#32
  let c1_i32_370 : BitVec 32 := 1#32
  let v430 : BitVec 32 := Scalar.muli c5_i32_369 c1_i32_370
  let v431 : BitVec 32 := Scalar.addi c0_i32_371 v430
  v431.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_119 : BitVec 32 := 2#32
  let v146 : BitVec 1 := Scalar.cmpi .eq v2 c2_i32_119
  let v147 : BitVec 32 := Scalar.extui v146
  let c0_i32_120 : BitVec 32 := 0#32
  let v148 : BitVec 1 := Scalar.cmpi .ne v147 c0_i32_120
  v148

def k0_dev25 : Nat :=
  let c0_i32_371 : BitVec 32 := 0#32
  let c6_i32_369 : BitVec 32 := 6#32
  let c1_i32_370 : BitVec 32 := 1#32
  let v430 : BitVec 32 := Scalar.muli c6_i32_369 c1_i32_370
  let v431 : BitVec 32 := Scalar.addi c0_i32_371 v430
  v431.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_121 : BitVec 32 := 2#32
  let v149 : BitVec 1 := Scalar.cmpi .eq v2 c2_i32_121
  let v150 : BitVec 32 := Scalar.extui v149
  let c0_i32_122 : BitVec 32 := 0#32
  let v151 : BitVec 1 := Scalar.cmpi .ne v150 c0_i32_122
  v151

def k0_dev26 : Nat :=
  let c0_i32_371 : BitVec 32 := 0#32
  let c7_i32_369 : BitVec 32 := 7#32
  let c1_i32_370 : BitVec 32 := 1#32
  let v430 : BitVec 32 := Scalar.muli c7_i32_369 c1_i32_370
  let v431 : BitVec 32 := Scalar.addi c0_i32_371 v430
  v431.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v152 : BitVec 1 := Scalar.cmpi .eq v2 c3_i32_123
  let v153 : BitVec 32 := Scalar.extui v152
  let c0_i32_124 : BitVec 32 := 0#32
  let v154 : BitVec 1 := Scalar.cmpi .ne v153 c0_i32_124
  v154

def k0_dev27 : Nat :=
  let c0_i32_371 : BitVec 32 := 0#32
  let c4_i32_369 : BitVec 32 := 4#32
  let c1_i32_370 : BitVec 32 := 1#32
  let v430 : BitVec 32 := Scalar.muli c4_i32_369 c1_i32_370
  let v431 : BitVec 32 := Scalar.addi c0_i32_371 v430
  v431.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_125 : BitVec 32 := 3#32
  let v155 : BitVec 1 := Scalar.cmpi .eq v2 c3_i32_125
  let v156 : BitVec 32 := Scalar.extui v155
  let c0_i32_126 : BitVec 32 := 0#32
  let v157 : BitVec 1 := Scalar.cmpi .ne v156 c0_i32_126
  v157

def k0_dev28 : Nat :=
  let c0_i32_371 : BitVec 32 := 0#32
  let c5_i32_369 : BitVec 32 := 5#32
  let c1_i32_370 : BitVec 32 := 1#32
  let v430 : BitVec 32 := Scalar.muli c5_i32_369 c1_i32_370
  let v431 : BitVec 32 := Scalar.addi c0_i32_371 v430
  v431.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_127 : BitVec 32 := 3#32
  let v158 : BitVec 1 := Scalar.cmpi .eq v2 c3_i32_127
  let v159 : BitVec 32 := Scalar.extui v158
  let c0_i32_128 : BitVec 32 := 0#32
  let v160 : BitVec 1 := Scalar.cmpi .ne v159 c0_i32_128
  v160

def k0_dev29 : Nat :=
  let c0_i32_371 : BitVec 32 := 0#32
  let c6_i32_369 : BitVec 32 := 6#32
  let c1_i32_370 : BitVec 32 := 1#32
  let v430 : BitVec 32 := Scalar.muli c6_i32_369 c1_i32_370
  let v431 : BitVec 32 := Scalar.addi c0_i32_371 v430
  v431.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_129 : BitVec 32 := 3#32
  let v161 : BitVec 1 := Scalar.cmpi .eq v2 c3_i32_129
  let v162 : BitVec 32 := Scalar.extui v161
  let c0_i32_130 : BitVec 32 := 0#32
  let v163 : BitVec 1 := Scalar.cmpi .ne v162 c0_i32_130
  v163

def k0_dev30 : Nat :=
  let c0_i32_371 : BitVec 32 := 0#32
  let c7_i32_369 : BitVec 32 := 7#32
  let c1_i32_370 : BitVec 32 := 1#32
  let v430 : BitVec 32 := Scalar.muli c7_i32_369 c1_i32_370
  let v431 : BitVec 32 := Scalar.addi c0_i32_371 v430
  v431.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v164 : BitVec 1 := Scalar.cmpi .eq v2 c4_i32_131
  let v165 : BitVec 32 := Scalar.extui v164
  let c0_i32_132 : BitVec 32 := 0#32
  let v166 : BitVec 1 := Scalar.cmpi .ne v165 c0_i32_132
  v166

def k0_dev31 : Nat :=
  let c0_i32_371 : BitVec 32 := 0#32
  let c5_i32_369 : BitVec 32 := 5#32
  let c1_i32_370 : BitVec 32 := 1#32
  let v430 : BitVec 32 := Scalar.muli c5_i32_369 c1_i32_370
  let v431 : BitVec 32 := Scalar.addi c0_i32_371 v430
  v431.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v167 : BitVec 1 := Scalar.cmpi .eq v2 c4_i32_133
  let v168 : BitVec 32 := Scalar.extui v167
  let c0_i32_134 : BitVec 32 := 0#32
  let v169 : BitVec 1 := Scalar.cmpi .ne v168 c0_i32_134
  v169

def k0_dev32 : Nat :=
  let c0_i32_371 : BitVec 32 := 0#32
  let c6_i32_369 : BitVec 32 := 6#32
  let c1_i32_370 : BitVec 32 := 1#32
  let v430 : BitVec 32 := Scalar.muli c6_i32_369 c1_i32_370
  let v431 : BitVec 32 := Scalar.addi c0_i32_371 v430
  v431.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_135 : BitVec 32 := 4#32
  let v170 : BitVec 1 := Scalar.cmpi .eq v2 c4_i32_135
  let v171 : BitVec 32 := Scalar.extui v170
  let c0_i32_136 : BitVec 32 := 0#32
  let v172 : BitVec 1 := Scalar.cmpi .ne v171 c0_i32_136
  v172

def k0_dev33 : Nat :=
  let c0_i32_371 : BitVec 32 := 0#32
  let c7_i32_369 : BitVec 32 := 7#32
  let c1_i32_370 : BitVec 32 := 1#32
  let v430 : BitVec 32 := Scalar.muli c7_i32_369 c1_i32_370
  let v431 : BitVec 32 := Scalar.addi c0_i32_371 v430
  v431.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_137 : BitVec 32 := 5#32
  let v173 : BitVec 1 := Scalar.cmpi .eq v2 c5_i32_137
  let v174 : BitVec 32 := Scalar.extui v173
  let c0_i32_138 : BitVec 32 := 0#32
  let v175 : BitVec 1 := Scalar.cmpi .ne v174 c0_i32_138
  v175

def k0_dev34 : Nat :=
  let c0_i32_371 : BitVec 32 := 0#32
  let c6_i32_369 : BitVec 32 := 6#32
  let c1_i32_370 : BitVec 32 := 1#32
  let v430 : BitVec 32 := Scalar.muli c6_i32_369 c1_i32_370
  let v431 : BitVec 32 := Scalar.addi c0_i32_371 v430
  v431.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_139 : BitVec 32 := 5#32
  let v176 : BitVec 1 := Scalar.cmpi .eq v2 c5_i32_139
  let v177 : BitVec 32 := Scalar.extui v176
  let c0_i32_140 : BitVec 32 := 0#32
  let v178 : BitVec 1 := Scalar.cmpi .ne v177 c0_i32_140
  v178

def k0_dev35 : Nat :=
  let c0_i32_371 : BitVec 32 := 0#32
  let c7_i32_369 : BitVec 32 := 7#32
  let c1_i32_370 : BitVec 32 := 1#32
  let v430 : BitVec 32 := Scalar.muli c7_i32_369 c1_i32_370
  let v431 : BitVec 32 := Scalar.addi c0_i32_371 v430
  v431.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_141 : BitVec 32 := 6#32
  let v179 : BitVec 1 := Scalar.cmpi .eq v2 c6_i32_141
  let v180 : BitVec 32 := Scalar.extui v179
  let c0_i32_142 : BitVec 32 := 0#32
  let v181 : BitVec 1 := Scalar.cmpi .ne v180 c0_i32_142
  v181

def k0_dev36 : Nat :=
  let c0_i32_371 : BitVec 32 := 0#32
  let c7_i32_369 : BitVec 32 := 7#32
  let c1_i32_370 : BitVec 32 := 1#32
  let v430 : BitVec 32 := Scalar.muli c7_i32_369 c1_i32_370
  let v431 : BitVec 32 := Scalar.addi c0_i32_371 v430
  v431.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let v197 : BitVec 1 := Scalar.cmpi .eq v2 c1_i32_152
  let v198 : BitVec 32 := Scalar.extui v197
  let c0_i32_153 : BitVec 32 := 0#32
  let v199 : BitVec 1 := Scalar.cmpi .ne v198 c0_i32_153
  v199

def k0_dev37 : Nat :=
  let c0_i32_377 : BitVec 32 := 0#32
  let c0_i32_375 : BitVec 32 := 0#32
  let c1_i32_376 : BitVec 32 := 1#32
  let v436 : BitVec 32 := Scalar.muli c0_i32_375 c1_i32_376
  let v437 : BitVec 32 := Scalar.addi c0_i32_377 v436
  v437.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_154 : BitVec 32 := 2#32
  let v200 : BitVec 1 := Scalar.cmpi .eq v2 c2_i32_154
  let v201 : BitVec 32 := Scalar.extui v200
  let c0_i32_155 : BitVec 32 := 0#32
  let v202 : BitVec 1 := Scalar.cmpi .ne v201 c0_i32_155
  v202

def k0_dev38 : Nat :=
  let c0_i32_377 : BitVec 32 := 0#32
  let c0_i32_375 : BitVec 32 := 0#32
  let c1_i32_376 : BitVec 32 := 1#32
  let v436 : BitVec 32 := Scalar.muli c0_i32_375 c1_i32_376
  let v437 : BitVec 32 := Scalar.addi c0_i32_377 v436
  v437.toNat
def k0_dev39 : Nat :=
  let c0_i32_389 : BitVec 32 := 0#32
  let c1_i32_387 : BitVec 32 := 1#32
  let c1_i32_388 : BitVec 32 := 1#32
  let v444 : BitVec 32 := Scalar.muli c1_i32_387 c1_i32_388
  let v445 : BitVec 32 := Scalar.addi c0_i32_389 v444
  v445.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_156 : BitVec 32 := 3#32
  let v203 : BitVec 1 := Scalar.cmpi .eq v2 c3_i32_156
  let v204 : BitVec 32 := Scalar.extui v203
  let c0_i32_157 : BitVec 32 := 0#32
  let v205 : BitVec 1 := Scalar.cmpi .ne v204 c0_i32_157
  v205

def k0_dev40 : Nat :=
  let c0_i32_377 : BitVec 32 := 0#32
  let c0_i32_375 : BitVec 32 := 0#32
  let c1_i32_376 : BitVec 32 := 1#32
  let v436 : BitVec 32 := Scalar.muli c0_i32_375 c1_i32_376
  let v437 : BitVec 32 := Scalar.addi c0_i32_377 v436
  v437.toNat
def k0_dev41 : Nat :=
  let c0_i32_389 : BitVec 32 := 0#32
  let c1_i32_387 : BitVec 32 := 1#32
  let c1_i32_388 : BitVec 32 := 1#32
  let v444 : BitVec 32 := Scalar.muli c1_i32_387 c1_i32_388
  let v445 : BitVec 32 := Scalar.addi c0_i32_389 v444
  v445.toNat
def k0_dev42 : Nat :=
  let c0_i32_401 : BitVec 32 := 0#32
  let c2_i32_399 : BitVec 32 := 2#32
  let c1_i32_400 : BitVec 32 := 1#32
  let v452 : BitVec 32 := Scalar.muli c2_i32_399 c1_i32_400
  let v453 : BitVec 32 := Scalar.addi c0_i32_401 v452
  v453.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_158 : BitVec 32 := 4#32
  let v206 : BitVec 1 := Scalar.cmpi .eq v2 c4_i32_158
  let v207 : BitVec 32 := Scalar.extui v206
  let c0_i32_159 : BitVec 32 := 0#32
  let v208 : BitVec 1 := Scalar.cmpi .ne v207 c0_i32_159
  v208

def k0_dev43 : Nat :=
  let c0_i32_377 : BitVec 32 := 0#32
  let c0_i32_375 : BitVec 32 := 0#32
  let c1_i32_376 : BitVec 32 := 1#32
  let v436 : BitVec 32 := Scalar.muli c0_i32_375 c1_i32_376
  let v437 : BitVec 32 := Scalar.addi c0_i32_377 v436
  v437.toNat
def k0_dev44 : Nat :=
  let c0_i32_389 : BitVec 32 := 0#32
  let c1_i32_387 : BitVec 32 := 1#32
  let c1_i32_388 : BitVec 32 := 1#32
  let v444 : BitVec 32 := Scalar.muli c1_i32_387 c1_i32_388
  let v445 : BitVec 32 := Scalar.addi c0_i32_389 v444
  v445.toNat
def k0_dev45 : Nat :=
  let c0_i32_401 : BitVec 32 := 0#32
  let c2_i32_399 : BitVec 32 := 2#32
  let c1_i32_400 : BitVec 32 := 1#32
  let v452 : BitVec 32 := Scalar.muli c2_i32_399 c1_i32_400
  let v453 : BitVec 32 := Scalar.addi c0_i32_401 v452
  v453.toNat
def k0_dev46 : Nat :=
  let c0_i32_413 : BitVec 32 := 0#32
  let c3_i32_411 : BitVec 32 := 3#32
  let c1_i32_412 : BitVec 32 := 1#32
  let v460 : BitVec 32 := Scalar.muli c3_i32_411 c1_i32_412
  let v461 : BitVec 32 := Scalar.addi c0_i32_413 v460
  v461.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_160 : BitVec 32 := 5#32
  let v209 : BitVec 1 := Scalar.cmpi .eq v2 c5_i32_160
  let v210 : BitVec 32 := Scalar.extui v209
  let c0_i32_161 : BitVec 32 := 0#32
  let v211 : BitVec 1 := Scalar.cmpi .ne v210 c0_i32_161
  v211

def k0_dev47 : Nat :=
  let c0_i32_377 : BitVec 32 := 0#32
  let c0_i32_375 : BitVec 32 := 0#32
  let c1_i32_376 : BitVec 32 := 1#32
  let v436 : BitVec 32 := Scalar.muli c0_i32_375 c1_i32_376
  let v437 : BitVec 32 := Scalar.addi c0_i32_377 v436
  v437.toNat
def k0_dev48 : Nat :=
  let c0_i32_389 : BitVec 32 := 0#32
  let c1_i32_387 : BitVec 32 := 1#32
  let c1_i32_388 : BitVec 32 := 1#32
  let v444 : BitVec 32 := Scalar.muli c1_i32_387 c1_i32_388
  let v445 : BitVec 32 := Scalar.addi c0_i32_389 v444
  v445.toNat
def k0_dev49 : Nat :=
  let c0_i32_401 : BitVec 32 := 0#32
  let c2_i32_399 : BitVec 32 := 2#32
  let c1_i32_400 : BitVec 32 := 1#32
  let v452 : BitVec 32 := Scalar.muli c2_i32_399 c1_i32_400
  let v453 : BitVec 32 := Scalar.addi c0_i32_401 v452
  v453.toNat
def k0_dev50 : Nat :=
  let c0_i32_413 : BitVec 32 := 0#32
  let c3_i32_411 : BitVec 32 := 3#32
  let c1_i32_412 : BitVec 32 := 1#32
  let v460 : BitVec 32 := Scalar.muli c3_i32_411 c1_i32_412
  let v461 : BitVec 32 := Scalar.addi c0_i32_413 v460
  v461.toNat
def k0_dev51 : Nat :=
  let c0_i32_425 : BitVec 32 := 0#32
  let c4_i32_423 : BitVec 32 := 4#32
  let c1_i32_424 : BitVec 32 := 1#32
  let v468 : BitVec 32 := Scalar.muli c4_i32_423 c1_i32_424
  let v469 : BitVec 32 := Scalar.addi c0_i32_425 v468
  v469.toNat
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_162 : BitVec 32 := 6#32
  let v212 : BitVec 1 := Scalar.cmpi .eq v2 c6_i32_162
  let v213 : BitVec 32 := Scalar.extui v212
  let c0_i32_163 : BitVec 32 := 0#32
  let v214 : BitVec 1 := Scalar.cmpi .ne v213 c0_i32_163
  v214

def k0_dev52 : Nat :=
  let c0_i32_377 : BitVec 32 := 0#32
  let c0_i32_375 : BitVec 32 := 0#32
  let c1_i32_376 : BitVec 32 := 1#32
  let v436 : BitVec 32 := Scalar.muli c0_i32_375 c1_i32_376
  let v437 : BitVec 32 := Scalar.addi c0_i32_377 v436
  v437.toNat
def k0_dev53 : Nat :=
  let c0_i32_389 : BitVec 32 := 0#32
  let c1_i32_387 : BitVec 32 := 1#32
  let c1_i32_388 : BitVec 32 := 1#32
  let v444 : BitVec 32 := Scalar.muli c1_i32_387 c1_i32_388
  let v445 : BitVec 32 := Scalar.addi c0_i32_389 v444
  v445.toNat
def k0_dev54 : Nat :=
  let c0_i32_401 : BitVec 32 := 0#32
  let c2_i32_399 : BitVec 32 := 2#32
  let c1_i32_400 : BitVec 32 := 1#32
  let v452 : BitVec 32 := Scalar.muli c2_i32_399 c1_i32_400
  let v453 : BitVec 32 := Scalar.addi c0_i32_401 v452
  v453.toNat
def k0_dev55 : Nat :=
  let c0_i32_413 : BitVec 32 := 0#32
  let c3_i32_411 : BitVec 32 := 3#32
  let c1_i32_412 : BitVec 32 := 1#32
  let v460 : BitVec 32 := Scalar.muli c3_i32_411 c1_i32_412
  let v461 : BitVec 32 := Scalar.addi c0_i32_413 v460
  v461.toNat
def k0_dev56 : Nat :=
  let c0_i32_425 : BitVec 32 := 0#32
  let c4_i32_423 : BitVec 32 := 4#32
  let c1_i32_424 : BitVec 32 := 1#32
  let v468 : BitVec 32 := Scalar.muli c4_i32_423 c1_i32_424
  let v469 : BitVec 32 := Scalar.addi c0_i32_425 v468
  v469.toNat
def k0_dev57 : Nat :=
  let c0_i32_437 : BitVec 32 := 0#32
  let c5_i32_435 : BitVec 32 := 5#32
  let c1_i32_436 : BitVec 32 := 1#32
  let v476 : BitVec 32 := Scalar.muli c5_i32_435 c1_i32_436
  let v477 : BitVec 32 := Scalar.addi c0_i32_437 v476
  v477.toNat
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_164 : BitVec 32 := 7#32
  let v215 : BitVec 1 := Scalar.cmpi .eq v2 c7_i32_164
  let v216 : BitVec 32 := Scalar.extui v215
  let c0_i32_165 : BitVec 32 := 0#32
  let v217 : BitVec 1 := Scalar.cmpi .ne v216 c0_i32_165
  v217

def k0_dev58 : Nat :=
  let c0_i32_377 : BitVec 32 := 0#32
  let c0_i32_375 : BitVec 32 := 0#32
  let c1_i32_376 : BitVec 32 := 1#32
  let v436 : BitVec 32 := Scalar.muli c0_i32_375 c1_i32_376
  let v437 : BitVec 32 := Scalar.addi c0_i32_377 v436
  v437.toNat
def k0_dev59 : Nat :=
  let c0_i32_389 : BitVec 32 := 0#32
  let c1_i32_387 : BitVec 32 := 1#32
  let c1_i32_388 : BitVec 32 := 1#32
  let v444 : BitVec 32 := Scalar.muli c1_i32_387 c1_i32_388
  let v445 : BitVec 32 := Scalar.addi c0_i32_389 v444
  v445.toNat
def k0_dev60 : Nat :=
  let c0_i32_401 : BitVec 32 := 0#32
  let c2_i32_399 : BitVec 32 := 2#32
  let c1_i32_400 : BitVec 32 := 1#32
  let v452 : BitVec 32 := Scalar.muli c2_i32_399 c1_i32_400
  let v453 : BitVec 32 := Scalar.addi c0_i32_401 v452
  v453.toNat
def k0_dev61 : Nat :=
  let c0_i32_413 : BitVec 32 := 0#32
  let c3_i32_411 : BitVec 32 := 3#32
  let c1_i32_412 : BitVec 32 := 1#32
  let v460 : BitVec 32 := Scalar.muli c3_i32_411 c1_i32_412
  let v461 : BitVec 32 := Scalar.addi c0_i32_413 v460
  v461.toNat
def k0_dev62 : Nat :=
  let c0_i32_425 : BitVec 32 := 0#32
  let c4_i32_423 : BitVec 32 := 4#32
  let c1_i32_424 : BitVec 32 := 1#32
  let v468 : BitVec 32 := Scalar.muli c4_i32_423 c1_i32_424
  let v469 : BitVec 32 := Scalar.addi c0_i32_425 v468
  v469.toNat
def k0_dev63 : Nat :=
  let c0_i32_437 : BitVec 32 := 0#32
  let c5_i32_435 : BitVec 32 := 5#32
  let c1_i32_436 : BitVec 32 := 1#32
  let v476 : BitVec 32 := Scalar.muli c5_i32_435 c1_i32_436
  let v477 : BitVec 32 := Scalar.addi c0_i32_437 v476
  v477.toNat
def k0_dev64 : Nat :=
  let c0_i32_449 : BitVec 32 := 0#32
  let c6_i32_447 : BitVec 32 := 6#32
  let c1_i32_448 : BitVec 32 := 1#32
  let v484 : BitVec 32 := Scalar.muli c6_i32_447 c1_i32_448
  let v485 : BitVec 32 := Scalar.addi c0_i32_449 v484
  v485.toNat
-- ==== ReferenceIdeal.lean ====
abbrev S16384x1024 : Shape := ⟨2, ![16384, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S_, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdealProtocol.lean ====
/-
# The protocol of the distributed prefix sum

Eight devices each hold a block of 2048 rows. Every device sums its block to one row of column totals, and sends
that row to every LATER device; a device adds the totals of all EARLIER devices to the running sums inside its
own block.

The synchronisation has four families of semaphore cells, each with a single round:

* the barrier cell of `c`: every other device pays one unit; a later device `q` hands over, with its unit, the slot
  of its landing buffer that `c`'s row will be written to;
* the receive cell `j` of `c` (`j` earlier than `c`): paid by device `j`'s transfer, which hands over slot `j` of
  `c`'s landing buffer holding `j`'s totals;
* the send cell `k` of `c` (`k` later than `c`): paid by `c`'s own transfer to `k`, which hands back the share of
  the totals row the transfer was reading;
* the acknowledgement cell of `c`: every later device pays one unit, handing over nothing.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds' ghost state: a duty is named by the device that pays it (a send cell's by the device sent to). -/
abbrev UB : Type := URounds (GSem nD τ sig) (Dev nD)
/-- The launch's ghost state beside the rounds' and beside the counters local copies draw their tokens from. -/
abbrev UU : Type := UR sig nD τ × (UB × Counters)

local notation "𝕄" => MT nD τ sig Unit (Elt F) ℕ UU ℕ

/-- Where the pipeline's ghost state lies, -/
abbrev EP : Emb (UR sig nD τ) (MT nD τ sig Unit (Elt F) ℕ UU ℕ) := embL
/-- and the rounds' ghost state. -/
abbrev ER : Emb UB (MT nD τ sig Unit (Elt F) ℕ UU ℕ) := (Emb.inl : Emb UB (UB × Counters)).trans embR

/-- The program has no variants. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and cells -/

/-- The argument's rows, -/
abbrev xM : Memref sig .tc .hbm S2048x1024 .f32 := Memref.whole main_arg0
/-- the result's rows, -/
abbrev oM : Memref sig .tc .hbm S2048x1024 .f32 := Memref.whole main_v1
/-- the rows copied in, -/
abbrev xvM : Memref sig .tc .vmem S2048x1024 .f32 := Memref.whole cc0_scratch0
/-- the running sums of the first two blocks, -/
abbrev pvM : Memref sig .tc .vmem S512x1024 .f32 := Memref.whole cc0_scratch1
/-- the two blocks on their way out, -/
abbrev ovM : Memref sig .tc .vmem S2x256x1024 .f32 := Memref.whole cc0_scratch2
/-- the column totals, -/
abbrev totM : Memref sig .tc .vmem S1x1024 .f32 := Memref.whole cc0_scratch3
/-- and the totals received, a slot to each device. -/
abbrev rcvM : Memref sig .tc .vmem S8x1x1024 .f32 := Memref.whole cc0_scratch4

/-- A slot lies in the landing buffer. -/
theorem slot_inb (j : Dev nD) : ∀ a, (![j.val, 0, 0] : Fin 3 → Nat) a + S1x1x1024.size a ≤ S8x1x1024.size a := by
  revert j; decide

/-- Slot `j` of the landing buffer, as the rectangle a load names. -/
abbrev slotR (j : Dev nD) : Rect S8x1x1024 := Rect.unit (s := S8x1x1024) ![j.val, 0, 0] S1x1x1024.size (slot_inb j)
/-- Slot `j` of the landing buffer, as the row a transfer names. -/
abbrev slot (j : Dev nD) : Memref sig .tc .vmem S1x1024 .f32 :=
  (rcvM.slice (slotR j) (fun _ => rfl)).squeeze S1x1024 squeezes_S1x1x1024_S1x1024

/-- The runtime's barrier semaphore. -/
abbrev barS : Sem sig := (SemArray.scalar (sig.barrier 0 rfl) : Sems sig S_).sem
/-- The acknowledgement semaphore. -/
abbrev ackS : Sem sig := (cc0_scratch9 : Sems sig S_).sem
/-- The semaphore of the transfer to device `k`. -/
def sendS (k : Dev nD) : DmaSem sig := ⟨10 + k.val, by have h := k.isLt; revert h; show k.val < 8 → 10 + k.val < 26; omega⟩
/-- The semaphore of the transfer from device `j`. -/
def recvS (j : Dev nD) : DmaSem sig := ⟨18 + j.val, by have h := j.isLt; revert h; show j.val < 8 → 18 + j.val < 26; omega⟩

/-- Device `c`'s barrier cell, -/
abbrev barCell (c : Dev nD) : GSem nD τ sig := ((c : Thread nD τ), .reg barS)
/-- its acknowledgement cell, -/
abbrev ackCell (c : Dev nD) : GSem nD τ sig := ((c : Thread nD τ), .reg ackS)
/-- its cell for the send to device `k`, -/
abbrev sendCell (c k : Dev nD) : GSem nD τ sig := ((c : Thread nD τ), .dma (sendS k))
/-- and its cell for the row from device `j`. -/
abbrev recvCell (c j : Dev nD) : GSem nD τ sig := ((c : Thread nD τ), .dma (recvS j))

/-- The four families of cells of a device: barrier, acknowledgement, send `k`, receive `j`. -/
abbrev CK : Type := Bool ⊕ (Bool × Dev nD)

/-- The semaphore of a family's member. -/
abbrev csem : CK → SemLoc sig
  | .inl false => .reg barS
  | .inl true => .reg ackS
  | .inr (false, k) => .dma (sendS k)
  | .inr (true, j) => .dma (recvS j)

/-- The cell of a device and a family's member. -/
abbrev kcell (ck : Dev nD × CK) : GSem nD τ sig := ((ck.1 : Thread nD τ), csem ck.2)

/-- Which family and member a semaphore is, if any. -/
def kind (s : SemLoc sig) : Option CK :=
  if s = .reg barS then some (.inl false)
  else if s = .reg ackS then some (.inl true)
  else match s with
    | .reg _ => none
    | .dma q =>
      if h : 10 ≤ q.val ∧ q.val < 18 then some (.inr (false, ⟨q.val - 10, by show q.val - 10 < 8; omega⟩))
      else if h : 18 ≤ q.val ∧ q.val < 26 then some (.inr (true, ⟨q.val - 18, by show q.val - 18 < 8; omega⟩))
      else none

/-- A family's member is told from its semaphore, -/
theorem kind_csem : ∀ k : CK, kind (csem k) = some k := by decide

/-- so different members have different semaphores. -/
theorem csem_injective : Function.Injective csem := fun a b h => by
  have := congrArg kind h
  rw [kind_csem, kind_csem] at this
  exact Option.some.inj this

/-- The amount one row's transfer credits. -/
abbrev N : ℕ := (slot 0).view.dmaCredit
/-- A transfer credits something. -/
theorem N_pos : 0 < N := View.dmaCredit_pos _ (by decide)

/-! ## Contents -/

/-- Device `c`'s block of the argument. -/
abbrev xb (c : Dev nD) : (main_arg0 : Ref sig .tc).ty.Contents (Elt F) := m ((c : Thread nD τ).loc main_arg0)
/-- Device `c`'s column totals. -/
def totV (c : Dev nD) : FVec F S1x1024 .f32 := k0_pay1 (F := F) (xb m c)

/-- Slot `j` of device `c`'s landing buffer, at contents `f`. -/
def slotAt (c j : Dev nD) (f : Buf (Elt F) ((slot j).view.loc (c : Thread nD τ))) : sProp 𝕄 :=
  (slot j).view.loc (c : Thread nD τ) ↦[(slot j).view.set]{fullShare} f
/-- Slot `j` of device `c`'s landing buffer, at some contents. -/
def slotAny (c j : Dev nD) : sProp 𝕄 := iprop(∃ f, slotAt c j f)
/-- Slot `j` of device `c`'s landing buffer, holding device `j`'s totals. -/
def slotTot (c j : Dev nD) : sProp 𝕄 := iprop(∃ f, ⌜(slot j).view.read (Elt F) f = totV m j⌝ ∗ slotAt c j f)

/-- Device `c`'s totals row, the share lent to the transfer to device `k`. -/
def totShare (c k : Dev nD) : sProp 𝕄 :=
  (totM.view.loc (c : Thread nD τ) ↦[totM.view.set]{Transfers.shareTok fullShare 8 k} (totV m c : Buf (Elt F) (totM.view.loc (c : Thread nD τ))))

omit [FloatOps F] in
/-- A slot with given contents can be kept in an invariant, -/
instance slotAt_storable (c j : Dev nD) (f) : BI.Storable (upEmb : UEmb _ 𝕄) (slotAt (F := F) c j f) := by
  unfold slotAt; infer_instance
omit [FloatOps F] in
/-- so can a slot with any contents, -/
instance slotAny_storable (c j : Dev nD) : BI.Storable (upEmb : UEmb _ 𝕄) (slotAny (F := F) c j) := by
  unfold slotAny; infer_instance
/-- a slot with a device's totals, -/
instance slotTot_storable (c j : Dev nD) : BI.Storable (upEmb : UEmb _ 𝕄) (slotTot m c j) := by
  unfold slotTot; infer_instance
/-- and a share of the totals. -/
instance totShare_storable (c k : Dev nD) : BI.Storable (upEmb : UEmb _ 𝕄) (totShare m c k) := by
  unfold totShare; infer_instance

/-- A part of the kernel's body at the kernel's own buffers and semaphores. -/
abbrev onArgs {β : Type 1} (p : (a0 : Memref sig .tc .hbm S2048x1024 .f32) → a0.IsWhole → (a1 : Memref sig .tc .hbm S2048x1024 .f32) → a1.IsWhole
    → (a2 : Memref sig .tc .vmem S2048x1024 .f32) → a2.IsWhole → (a3 : Memref sig .tc .vmem S512x1024 .f32) → a3.IsWhole
    → (a4 : Memref sig .tc .vmem S2x256x1024 .f32) → a4.IsWhole → (a5 : Memref sig .tc .vmem S1x1024 .f32) → a5.IsWhole
    → (a6 : Memref sig .tc .vmem S8x1x1024 .f32) → a6.IsWhole → DmaSems sig S8 → DmaSems sig S2 → DmaSems sig S8 → DmaSems sig S8 → Sems sig S_ → β) : β :=
  p xM (Memref.isWhole_whole _) oM (Memref.isWhole_whole _) xvM (Memref.isWhole_whole _) pvM (Memref.isWhole_whole _)
    ovM (Memref.isWhole_whole _) totM (Memref.isWhole_whole _) rcvM (Memref.isWhole_whole _) cc0_scratch5 cc0_scratch6 cc0_scratch7 cc0_scratch8 cc0_scratch9

/-- A buffer held whole through a memref, at the full share. -/
abbrev held (c : Dev nD) {sp : Space} {S : Shape} (M : Memref sig .tc sp S .f32) (f : Buf (Elt F) (M.view.loc (c : Thread nD τ))) : sProp 𝕄 :=
  M.view.loc (c : Thread nD τ) ↦[Finset.univ]{fullShare} f
/-- A semaphore's counter at zero. -/
abbrev zero (c : Dev nD) (s : SemLoc sig) : sProp 𝕄 := semVal ((c : Thread nD τ), s) 0

omit [FloatOps F] in
/-- One member of a family set apart. -/
theorem take {I : Type} [DecidableEq I] {s : Finset I} {i : I} (h : i ∈ s) (Φ : I → sProp 𝕄) :
    bigSep s Φ = iprop(Φ i ∗ bigSep (s.erase i) Φ) := bigSep_erase h
omit [FloatOps F] in
/-- One member of a family put back. -/
theorem put {I : Type} [DecidableEq I] {s : Finset I} {i : I} (h : i ∈ s) (Φ : I → sProp 𝕄) :
    iprop(Φ i ∗ bigSep (s.erase i) Φ) ⊢ bigSep s Φ := Entails.of_eq (take h Φ).symm
omit [FloatOps F] in
/-- A new member added to a family. -/
theorem add {I : Type} [DecidableEq I] {s : Finset I} {i : I} (h : i ∉ s) (Φ : I → sProp 𝕄) :
    iprop(Φ i ∗ bigSep s Φ) ⊢ bigSep (insert i s) Φ := Entails.of_eq (bigSep_insert h).symm

omit [FloatOps F] in
/-- Two families over the same indices paired, -/
theorem pair {I : Type} [DecidableEq I] (s : Finset I) (Φ Ψ : I → sProp 𝕄) :
    iprop(bigSep s Φ ∗ bigSep s Ψ) ⊢ bigSep s (fun i => iprop(Φ i ∗ Ψ i)) := Entails.of_eq (bigSep_sep s Φ Ψ).symm
omit [FloatOps F] in
/-- and taken apart. -/
theorem unpair {I : Type} [DecidableEq I] (s : Finset I) (Φ Ψ : I → sProp 𝕄) :
    bigSep s (fun i => iprop(Φ i ∗ Ψ i)) ⊢ iprop(bigSep s Φ ∗ bigSep s Ψ) := Entails.of_eq (bigSep_sep s Φ Ψ)
omit [FloatOps F] in
/-- A family over no indices. -/
theorem nothing {I : Type} (Φ : I → sProp 𝕄) : ⊢ bigSep (∅ : Finset I) Φ := Entails.of_eq bigSep_empty.symm

/-! ## The schedule -/

/-- Who pays a cell of device `c`. -/
def dutK (c : Dev nD) : CK → Finset (Dev nD)
  | .inl false => Finset.univ.erase c
  | .inl true => Finset.univ.filter (c < ·)
  | .inr (false, k) => if c < k then {k} else ∅
  | .inr (true, j) => if j < c then {j} else ∅

/-- How much a payer pays. -/
def amtK : CK → ℕ
  | .inl _ => 1
  | .inr _ => N

/-- What a payer hands over. -/
def payK (c : Dev nD) : CK → Dev nD → sProp 𝕄
  | .inl false, q => if c < q then slotAny q c else iprop(emp)
  | .inl true, _ => iprop(emp)
  | .inr (false, k), _ => totShare m c k
  | .inr (true, j), _ => slotTot m c j

/-- Every duty is of a positive amount. -/
theorem amtK_pos (k : CK) : 0 < amtK k := by
  rcases k with b | p
  · exact Nat.one_pos
  · exact N_pos

/-- What a duty hands over can be kept in an invariant. -/
instance payK_storable (c : Dev nD) (k : CK) (d : Dev nD) : BI.Storable (upEmb : UEmb _ 𝕄) (payK m c k d) := by
  rcases k with (_ | _) | ⟨_ | _, j⟩ <;> dsimp only [payK]
  · split <;> infer_instance
  all_goals infer_instance

/-- The schedule: one round, the duties of the cell's family. -/
def Rd : Rounds.Schedule (GSem nD τ sig) (Dev nD) 𝕄 where
  duties g r := if r = 0 ∧ g.1.2 = .tc then (kind g.2).elim ∅ (dutK g.1.1) else ∅
  unitless _ := False
  amount g _ _ := (kind g.2).elim 1 amtK
  payload g _ d := (kind g.2).elim iprop(emp) (fun k => payK m g.1.1 k d)
  amount_pos g _ _ _ := by
    cases kind g.2 with
    | none => exact Nat.one_pos
    | some k => exact amtK_pos k

/-- The same, of all rounds. -/
instance Rd_storable (g : GSem nD τ sig) (r : ℕ) (d : Dev nD) :
    BI.Storable (upEmb : UEmb _ 𝕄) ((Rd m).payload g r d) := by
  show BI.Storable upEmb ((kind g.2).elim iprop(emp) (fun k => payK m g.1.1 k d))
  cases kind g.2 with
  | none => show BI.Storable upEmb iprop(emp); infer_instance
  | some k => exact payK_storable m g.1.1 k d

/-- The duties to a cell are its family's, -/
theorem duties_k (c : Dev nD) (k : CK) : (Rd m).duties (kcell (c, k)) 0 = dutK c k := by
  show (if (0 : ℕ) = 0 ∧ (kcell (c, k)).1.2 = .tc then (kind (csem k)).elim ∅ (dutK c) else ∅) = _
  rw [if_pos ⟨rfl, rfl⟩, kind_csem]; rfl
/-- their amounts too, -/
theorem amount_k (c : Dev nD) (k : CK) (d : Dev nD) : (Rd m).amount (kcell (c, k)) 0 d = amtK k := by
  show (kind (csem k)).elim 1 amtK = _
  rw [kind_csem]; rfl
/-- and what they hand over. -/
theorem payload_k (c : Dev nD) (k : CK) (d : Dev nD) : (Rd m).payload (kcell (c, k)) 0 d = payK m c k d := by
  show (kind (csem k)).elim iprop(emp) (fun k => payK m c k d) = _
  rw [kind_csem]; rfl
/-- There is one round only. -/
theorem duties_later (g : GSem nD τ sig) : ∀ r, 1 ≤ r → (Rd m).duties g r = ∅ :=
  fun r hr => if_neg fun h => by omega
/-- What a cell waits for in all: so much from each who has a duty to it. -/
theorem expect_k (c : Dev nD) (k : CK) : (Rd m).expect (kcell (c, k)) 0 = (dutK c k).card * amtK k := by
  unfold Schedule.expect Schedule.amountOf
  rw [duties_k, Finset.sum_congr rfl fun d _ => amount_k m c k d, Finset.sum_const, smul_eq_mul]

/-- Nothing is ever paid into a send or receive cell no transfer names. -/
theorem duties_unused (c : Dev nD) (k : CK) (h : dutK c k = ∅) : ∀ r, 0 ≤ r → (Rd m).duties (kcell (c, k)) r = ∅ := by
  intro r _
  rcases Nat.eq_zero_or_pos r with rfl | hr
  · rw [duties_k, h]
  · exact duties_later m _ r hr

/-! ## What a device owes; the levels -/

/-- One unit to the barrier cell of each device of `P`. -/
def barDebt (P : Finset (Dev nD)) : CellTallies nD τ sig Unit := ∑ q ∈ P, tallyAt (barCell q) () 1
/-- A row's credit to the receive cell `c` of each device of `P`. -/
def recvDebt (c : Dev nD) (P : Finset (Dev nD)) : CellTallies nD τ sig Unit := ∑ k ∈ P, tallyAt (recvCell k c) () N
/-- One unit to the acknowledgement cell of each device of `P`. -/
def ackDebt (P : Finset (Dev nD)) : CellTallies nD τ sig Unit := ∑ j ∈ P, tallyAt (ackCell j) () 1

/-- The devices after `c`. -/
abbrev after (c : Dev nD) : Finset (Dev nD) := Finset.univ.filter (c < ·)
/-- The devices before `c`. -/
abbrev before (c : Dev nD) : Finset (Dev nD) := Finset.univ.filter (· < c)
/-- The devices other than `c`. -/
abbrev others (c : Dev nD) : Finset (Dev nD) := Finset.univ.erase c

/-- What device `c` owes at launch. -/
def O₀ (c : Dev nD) : CellTallies nD τ sig Unit := recvDebt c (after c) + ackDebt (before c) + barDebt (others c)

/-- A TensorCore's cells carry debts of one kind, other cells none. -/
def L (g : GSem nD τ sig) : Finset Unit := if g.1.2 = .tc then {()} else ∅

/-- The level of a family: send cells 0, barrier 1, receive 2, acknowledgement 3. -/
def lvK : CK → ℕ
  | .inl false => 1
  | .inl true => 3
  | .inr (false, _) => 0
  | .inr (true, _) => 2
/-- The level of a cell: its family's; the local transfers' cells are at 0. -/
def lv (g : GSem nD τ sig) (_ : Unit) : ℕ := (kind g.2).elim 0 lvK

/-- No kind of debt on other cells, -/
theorem L_of_ne (g : GSem nD τ sig) (h : g.1.2 ≠ .tc) : L g = ∅ := if_neg h
/-- one kind on a TensorCore's. -/
theorem L_tc (c : Dev nD) (sm : SemLoc sig) : L ((c : Thread nD τ), sm) = {()} := if_pos rfl
/-- A cell's level is its family's. -/
theorem lv_k (c : Dev nD) (k : CK) (u : Unit) : lv (kcell (c, k)) u = lvK k := by
  unfold lv; rw [show (kcell (c, k)).2 = csem k from rfl, kind_csem]; rfl

/-- Every debt of `O` is to a cell of a TensorCore above level `n`. -/
def Above (n : ℕ) (O : CellTallies nD τ sig Unit) : Prop :=
  ∀ g u, 0 < O g u → u ∈ L g ∧ n < lv g u

/-- No debts are above any level. -/
theorem Above.zero (n : ℕ) : Above n 0 := fun g u h => absurd h (Nat.lt_irrefl 0)
/-- Debts above a level add up to debts above it. -/
theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
/-- A debt to a family above the level is above it. -/
theorem Above.tally {n : ℕ} (c : Dev nD) (k : CK) (a : ℕ) (h : n < lvK k) : Above n (tallyAt (kcell (c, k)) () a) := by
  intro g u hg
  rw [tallyAt_apply] at hg
  by_cases hh : g = kcell (c, k) ∧ u = ()
  · rw [hh.1, lv_k]; exact ⟨by rw [L_tc]; exact Finset.mem_singleton_self _, h⟩
  · rw [if_neg hh] at hg; exact absurd hg (Nat.lt_irrefl 0)
/-- So is a sum of such debts. -/
theorem Above.sum {n : ℕ} (P : Finset (Dev nD)) (f : Dev nD → CellTallies nD τ sig Unit) (h : ∀ q, Above n (f q)) :
    Above n (∑ q ∈ P, f q) := by
  classical
  induction P using Finset.induction_on with
  | empty => rw [Finset.sum_empty]; exact Above.zero n
  | insert a s ha ih => rw [Finset.sum_insert ha]; exact (h a).add ih

/-- The barrier's debts are above level 0, -/
theorem above_bar (P : Finset (Dev nD)) : Above 0 (barDebt P) := Above.sum P _ fun q => Above.tally q (.inl false) 1 (by decide)
/-- the rows' above any level below 2, -/
theorem above_recv {n : ℕ} (hn : n < 2) (c : Dev nD) (P : Finset (Dev nD)) : Above n (recvDebt c P) :=
  Above.sum P _ fun q => Above.tally q (.inr (true, c)) N hn
/-- and the acknowledgements' above any level below 3. -/
theorem above_ack {n : ℕ} (hn : n < 3) (P : Finset (Dev nD)) : Above n (ackDebt P) :=
  Above.sum P _ fun q => Above.tally q (.inl true) 1 hn

omit [FloatOps F] in
/-- A device may wait on a cell at level `n` while all it owes is above `n`. -/
theorem mayWait (c : Dev nD) (sm : SemLoc sig) (n : ℕ) (hs : lv ((c : Thread nD τ), sm) () ≤ n) {O : CellTallies nD τ sig Unit}
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

/-! ## The records every device holds -/

/-- Every cell's invariant, under the names `K`, and that its round 0 is reached. -/
def recs (K : Dev nD × CK → ℕ) : sProp 𝕄 :=
  iprop(bigSep Finset.univ (fun ck => cellInv ER (Rd m) (K ck) (kcell ck)) ∗ bigSep Finset.univ (fun ck => reached ER (kcell ck) 0))

/-- The records may be used again and again. -/
instance recs_persistent (K : Dev nD × CK → ℕ) : BI.Persistent (recs m K) := by unfold recs; infer_instance

omit [FloatOps F] in
/-- One cell's round 0 is reached, of all. -/
theorem reached_of (ck : Dev nD × CK) :
    (bigSep Finset.univ fun ck : Dev nD × CK => (reached ER (kcell ck) 0 : sProp 𝕄)) ⊢ reached ER (kcell ck) 0 :=
  bigSep_elim (Finset.mem_univ ck)
/-- One cell's invariant, of all. -/
theorem inv_of (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)

/-- A cell's invariant, from the records. -/
theorem recs_inv (K : Dev nD × CK → ℕ) (c : Dev nD) (k : CK) :
    recs m K ⊢ (cellInv ER (Rd m) (K (c, k)) (kcell (c, k)) : sProp 𝕄) := by
  unfold recs
  iintro ⟨H, -⟩
  iapply (inv_of m K (c, k)); iexact H
/-- A cell's round 0 is reached, from the records. -/
theorem recs_reached (K : Dev nD × CK → ℕ) (c : Dev nD) (k : CK) : recs m K ⊢ (reached ER (kcell (c, k)) 0 : sProp 𝕄) := by
  unfold recs
  iintro ⟨-, H⟩
  iapply (reached_of (c, k)); iexact H

end Cert.KernelIdeal.Scan
-- ==== Proof.KernelIdealHandshake.lean ====
/-
# The entry handshake, one step at a time

A device signals every other device's barrier cell, in device order, then waits for the seven signals of the others.
-/
module

public import proofs.«01_k».proof.Proof.KernelIdealProtocol

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- Reading the device's own number costs nothing. -/
theorem device_step (c : Dev nD) {α : Type} {Q : α → sProp 𝕄} {kk : Dev nD → Prog (TpuEff nD τ sig (Elt F) Λ₀ .tc) α} :
    wp frame (wpE (defs₀ (F := F)) 𝒱₀ (c : Thread nD τ) none) Set.univ (kk c) Q
      ⊢ wp frame (wpE (defs₀ (F := F)) 𝒱₀ (c : Thread nD τ) none) Set.univ (Prog.lift .deviceId >>= kk) Q := by
  simp only [Prog.lift, Prog.bind_op, Prog.bind_ret, wp_deviceId]
  exact BI.Entails.refl _

/-- The devices other than `c` from number `n` on. -/
def pendB (c : Dev nD) (n : ℕ) : Finset (Dev nD) := Finset.univ.filter fun q => q ≠ c ∧ n ≤ q.val

/-- At first these are all the others, -/
theorem pendB_zero (c : Dev nD) : pendB c 0 = others c := by revert c; decide
/-- at the end none. -/
theorem pendB_end (c : Dev nD) : pendB c 8 = ∅ := by revert c; decide
/-- The device's own number changes nothing. -/
theorem pendB_self (c : Dev nD) : pendB c (c.val + 1) = pendB c c.val := by revert c; decide
/-- Device `p` is among them when its turn comes, -/
theorem pendB_mem (c p : Dev nD) (h : c ≠ p) : p ∈ pendB c p.val := by
  unfold pendB; rw [Finset.mem_filter]; exact ⟨Finset.mem_univ _, h.symm, le_rfl⟩
/-- and no longer after it. -/
theorem pendB_succ (c p : Dev nD) (h : c ≠ p) : pendB c (p.val + 1) = (pendB c p.val).erase p := by
  ext q
  simp only [pendB, Finset.mem_filter, Finset.mem_univ, true_and, Finset.mem_erase, ne_eq]
  constructor
  · rintro ⟨h1, h2⟩; exact ⟨fun e => by subst e; omega, h1, by omega⟩
  · rintro ⟨h1, h2, h3⟩; exact ⟨h2, by have : q.val ≠ p.val := fun e => h1 (Fin.ext e); omega⟩

/-- The later devices are among the others. -/
theorem after_sub_others (c : Dev nD) : after c ⊆ others c := by revert c; decide

/-- What device `c` owes beside the barrier units. -/
abbrev O₁ (c : Dev nD) : CellTallies nD τ sig Unit := recvDebt c (after c) + ackDebt (before c)

/-- Device `c` on its way through the signals: those to devices from number `n` on are still owed, and it holds
    their tokens and what it hands over with them. -/
def SigSt (c : Dev nD) (n : ℕ) : sProp 𝕄 :=
  iprop((∃ W, owes (c : Thread nD τ) (O₁ c + barDebt (pendB c n)) W)
    ∗ bigSep (pendB c n) (fun q => iprop(dutyTok ER (barCell q) 0 c ∗ payK m q (.inl false) c)))

/-- One signal, or none to itself. -/
theorem sig_step (c p : Dev nD) (n : ℕ) (hn : p.val = n) (C : Prop) [Decidable C] (hC : C ↔ c ≠ p) (dev : C → Dev nD) (hdev : ∀ h, dev h = p)
    {α : Type} {Q : α → sProp 𝕄} {k : Prog (TpuEff nD τ sig (Elt F) Λ₀ .tc) α} :
    iprop(recs m K ∗ SigSt m c n)
      ⊢ iprop((SigSt m c (n + 1) -∗ wp frame (wpE (defs₀ (F := F)) 𝒱₀ (c : Thread nD τ) none) Set.univ k Q)
        -∗ wp frame (wpE (defs₀ (F := F)) 𝒱₀ (c : Thread nD τ) none) Set.univ
            (if h : C then (semSignalWord (dev h) barS 1#32 : Prog (TpuEff nD τ sig (Elt F) Λ₀ .tc) PUnit) >>= fun _ => k else k) Q) := by
  subst hn
  by_cases h : C
  · have hcp := hC.1 h
    have hd := hdev h
    rw [dif_pos h, hd]
    simp only [semSignalWord, Prog.lift, Prog.bind_op, Prog.bind_ret, Prog.pure_eq_ret]
    unfold SigSt
    rw [take (pendB_mem c p hcp), ← pendB_succ c p hcp]
    have hO : O₁ c + barDebt (pendB c p.val) = (O₁ c + barDebt (pendB c (p.val + 1))) + tallyAt (barCell p) () 1 := by
      unfold barDebt
      rw [pendB_succ c p hcp, add_assoc (O₁ c), Finset.sum_erase_add _ _ (pendB_mem c p hcp)]
    iintro ⟨#HR, ⟨%W, HO⟩, ⟨Ht, Hp⟩, Hrest⟩ Hk
    iapply (Rounds.wp_signal 𝒱₀ ER (Rd m) (c : Thread nD τ) none (dst := (p : Thread nD τ)) (κ := K (p, .inl false))
        (r := 0) (d := c) (show c ∈ (Rd m).duties (kcell (p, .inl false)) 0 by
          rw [duties_k]; exact Finset.mem_erase.mpr ⟨hcp, Finset.mem_univ _⟩)
        (((amount_k m p (.inl false) c).trans rfl : (Rd m).amount (barCell p) 0 c = 1).trans (by decide)) () (O₁ c + barDebt (pendB c (p.val + 1))) hO) $$ [HO Ht Hp]
    · isplitr; · iapply (recs_inv m K p (.inl false)); iexact HR
      isplitl [HO]; · iexact HO
      isplitl [Ht]; · iexact Ht
      isplitl [Hp]; · iapply (Entails.of_eq (payload_k m p (.inl false) c).symm); iexact Hp
      iapply (recs_reached m K p (.inl false)); iexact HR
    iintro HO
    iapply Hk
    isplitl [HO]; · iexists W; iexact HO
    iexact Hrest
  · have hcp : c = p := by by_contra hne; exact h (hC.2 hne)
    subst hcp
    rw [dif_neg h]
    unfold SigSt
    rw [pendB_self]
    iintro ⟨#HR, H⟩ Hk
    iapply Hk; iexact H

/-- After the wait for the others' seven signals, the slots the later devices handed over are held. -/
theorem barWait_step (c : Dev nD) {α : Type} {Q : α → sProp 𝕄} {kk : PUnit.{1} → Prog (TpuEff nD τ sig (Elt F) Λ₀ .tc) α} :
    iprop(recs m K ∗ levAts L lv ∗ (∃ W, owes (c : Thread nD τ) (O₁ c) W) ∗ cred (tallyAt (barCell c) () 7) ∗ atPos ER (barCell c) 0 ∅ 0)
      ⊢ iprop((((∃ W, owes (c : Thread nD τ) (O₁ c) W) ∗ atPos ER (barCell c) 1 ∅ 0 ∗ bigSep (after c) (fun k => slotAny (F := F) k c))
          -∗ wp frame (wpE (defs₀ (F := F)) 𝒱₀ (c : Thread nD τ) none) Set.univ (kk ⟨⟩) Q)
        -∗ wp frame (wpE (defs₀ (F := F)) 𝒱₀ (c : Thread nD τ) none) Set.univ
            (Prog.op (.semWait barS (7#32).toInt) kk) Q) := by
  iintro ⟨#HR, #Hlev, ⟨%W, HO⟩, Hc, Hat⟩ Hk
  iapply (Rounds.wp_wait_rest_token 𝒱₀ ER (Rd m) (c : Thread nD τ) none (κ := K (c, .inl false))
      (wpE_semWait_eq 𝒱₀ (c : Thread nD τ) none Set.univ) (Set.mem_univ _) () (O := O₁ c) (W := W) (R := 0) (m := 0) (T := ∅)
      (((by decide : 0 + 7 = 7)).trans ((expect_k m c (.inl false)).trans (by revert c; decide) : (Rd m).expect (barCell c) 0 = 7).symm)) $$ [Hc HO Hat]
  · isplitr; · iapply (recs_inv m K c (.inl false)); iexact HR
    isplitl [Hc]; · iexact Hc
    isplitl [HO]; · iexact HO
    isplitr
    · iapply (mayWait c (.reg barS) 1 (by decide +revert) ((above_recv (by decide) c _).add (above_ack (by decide) _))); iexact Hlev
    iexact Hat
  iintro ⟨HO, Hat, -, Hpay⟩
  iapply Hk
  isplitl [HO]; · iexists _; iexact HO
  isplitl [Hat]; · iexact Hat
  have hpay : bigSep ((Rd m).duties (barCell c) 0 \ ∅) (fun d => (Rd m).payload (barCell c) 0 d) ⊢ bigSep (after c) (fun k => slotAny (F := F) k c) := by
    have h1 : (Rd m).duties (barCell c) 0 = others c := duties_k m c (.inl false)
    rw [Finset.sdiff_empty, h1]
    refine (bigSep_subset (after_sub_others c)).trans (bigSep_mono fun q hq => ?_)
    have h2 : (Rd m).payload (barCell c) 0 q = payK m c (.inl false) q := payload_k m c (.inl false) q
    rw [h2]
    dsimp only [payK]
    rw [if_pos (Finset.mem_filter.mp hq).2]
    exact BI.Entails.refl _
  iapply hpay; iexact Hpay

end Cert.KernelIdeal.Scan
-- ==== Proof.KernelIdealTransfers.lean ====
/-
# The transfers of the totals rows, one step at a time

A device sends its totals row to every later device, receives the rows of the earlier ones, acknowledging each, and
at the end waits for its own transfers and for their acknowledgements.
-/
module

public import proofs.«01_k».proof.Proof.KernelIdealHandshake

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## Sending -/

/-- The pairs of an earlier and a later device, numbered in the order the program goes through them. -/
def pairNo (c k : Dev nD) : ℕ := c.val * (15 - c.val) / 2 + (k.val - c.val - 1)

/-- The later devices that `c` has not sent to when `n` pairs are gone through; -/
def pendS (c : Dev nD) (n : ℕ) : Finset (Dev nD) := Finset.univ.filter fun k => c < k ∧ n ≤ pairNo c k
/-- and those it has. -/
def doneS (c : Dev nD) (n : ℕ) : Finset (Dev nD) := Finset.univ.filter fun k => c < k ∧ pairNo c k < n

/-- At first `c` has still to send to every later device, -/
theorem pendS_zero (c : Dev nD) : pendS c 0 = after c := by revert c; decide
/-- and has sent to none; -/
theorem doneS_zero (c : Dev nD) : doneS c 0 = ∅ := by revert c; decide
/-- after all pairs none is left, -/
theorem pendS_end (c : Dev nD) : pendS c 28 = ∅ := by revert c; decide
/-- and all are sent to. -/
theorem doneS_end (c : Dev nD) : doneS c 28 = after c := by revert c; decide

/-- Different pairs have different numbers. -/
theorem pairNo_inj : ∀ c k j k' : Dev nD, c < k → j < k' → pairNo c k = pairNo j k' → c = j ∧ k = k' := by decide +kernel

/-- When the pair's turn comes, `k` is still to be sent to, -/
theorem pendS_mem {j k : Dev nD} (h : j < k) : k ∈ pendS j (pairNo j k) :=
  Finset.mem_filter.mpr ⟨Finset.mem_univ _, h, le_rfl⟩
/-- and not sent to yet; -/
theorem doneS_nmem {j k : Dev nD} : k ∉ doneS j (pairNo j k) := fun h => Nat.lt_irrefl _ (Finset.mem_filter.mp h).2.2
/-- after it `k` is not left any more, -/
theorem pendS_succ {j k : Dev nD} (h : j < k) : pendS j (pairNo j k + 1) = (pendS j (pairNo j k)).erase k := by
  ext q
  simp only [pendS, Finset.mem_filter, Finset.mem_univ, true_and, Finset.mem_erase, ne_eq]
  constructor
  · rintro ⟨h1, h2⟩; exact ⟨fun e => by subst e; omega, h1, by omega⟩
  · rintro ⟨h1, h2, h3⟩
    exact ⟨h2, Nat.lt_of_le_of_ne h3 fun e => h1 (pairNo_inj j k j q h h2 e).2.symm⟩
/-- but is sent to. -/
theorem doneS_succ {j k : Dev nD} (h : j < k) : doneS j (pairNo j k + 1) = insert k (doneS j (pairNo j k)) := by
  ext q
  simp only [doneS, Finset.mem_filter, Finset.mem_univ, true_and, Finset.mem_insert]
  constructor
  · rintro ⟨h1, h2⟩
    rcases Nat.lt_or_eq_of_le (Nat.le_of_lt_succ h2) with h3 | h3
    · exact Or.inr ⟨h1, h3⟩
    · exact Or.inl (pairNo_inj j q j k h1 h h3).2
  · rintro (rfl | ⟨h1, h2⟩)
    · exact ⟨h, Nat.lt_succ_self _⟩
    · exact ⟨h1, Nat.lt_succ_of_lt h2⟩
/-- A pair changes nothing for a device which is not its first: neither what is left, -/
theorem pendS_other {c j k : Dev nD} (h : j < k) (hc : c ≠ j) : pendS c (pairNo j k + 1) = pendS c (pairNo j k) := by
  ext q
  simp only [pendS, Finset.mem_filter, Finset.mem_univ, true_and]
  refine and_congr_right fun h1 => ⟨fun h2 => by omega, fun h2 => Nat.lt_of_le_of_ne h2 fun e => hc (pairNo_inj j k c q h h1 e).1.symm⟩
/-- nor what is sent. -/
theorem doneS_other {c j k : Dev nD} (h : j < k) (hc : c ≠ j) : doneS c (pairNo j k + 1) = doneS c (pairNo j k) := by
  ext q
  simp only [doneS, Finset.mem_filter, Finset.mem_univ, true_and]
  refine and_congr_right fun h1 => ⟨fun h2 => Nat.lt_of_le_of_ne (Nat.le_of_lt_succ h2) fun e => hc (pairNo_inj c q j k h1 h e).1, fun h2 => by omega⟩

/-- What device `c` sends to `k` with: the tokens of its send cell and of `k`'s receive cell, `k`'s slot for `c`, and
    the share of its totals row. -/
def sendRes (c k : Dev nD) : sProp 𝕄 :=
  iprop(dutyTok ER (sendCell c k) 0 k ∗ dutyTok ER (recvCell k c) 0 c ∗ slotAny k c ∗ totShare m c k)

/-- Device `c` on its way through the sends, `n` pairs gone through: for every transfer issued it holds the credit to
    wait for it with. -/
def SndSt (c : Dev nD) (n : ℕ) : sProp 𝕄 :=
  iprop((∃ W, owes (c : Thread nD τ) (recvDebt c (pendS c n) + ackDebt (before c)) W)
    ∗ bigSep (pendS c n) (fun k => sendRes m c k)
    ∗ bigSep (doneS c n) (fun k => cred (tallyAt (sendCell c k) () N)))

/-- The totals' transfer credits one row's amount, -/
theorem totAmount : totM.view.dmaCredit = N := by decide
/-- and so does a slot's. -/
theorem slotAmount (j : Dev nD) : (slot j).view.dmaCredit = N := by revert j; decide

/-- One pair: a transfer, or none. -/
theorem send_step (c j k : Dev nD) (n : ℕ) (hjk : j < k) (hn : pairNo j k = n) (C : Prop) [Decidable C] (hC : C ↔ c = j)
    (dev : C → Dev nD) (hdev : ∀ h, dev h = k) (sS rS : DmaSem sig) (hsS : sS = sendS k) (hrS : rS = recvS j)
    {α : Type} {Q : α → sProp 𝕄} {p : Prog (TpuEff nD τ sig (Elt F) Λ₀ .tc) α} :
    iprop(recs m K ∗ SndSt m c n)
      ⊢ iprop((SndSt m c (n + 1) -∗ wp frame (wpE (defs₀ (F := F)) 𝒱₀ (c : Thread nD τ) none) Set.univ p Q)
        -∗ wp frame (wpE (defs₀ (F := F)) 𝒱₀ (c : Thread nD τ) none) Set.univ
            (if h : C then
                (Prog.lift (.enqueueDma totM (.remote (Dev.tc (dev h)) (slot j) (.dma sS)) (.dma rS) (Memref.isWhole_whole _).wordExact
                  ((View.wordExact_bits rfl).reshape _ _) ⟨⟨rfl, Or.inl rfl⟩, trivial⟩) : Prog (TpuEff nD τ sig (Elt F) Λ₀ .tc) PUnit) >>= fun _ => p
              else p) Q) := by
  subst hn hsS hrS
  by_cases h : C
  · have hcj := hC.1 h
    subst hcj
    have hd := hdev h
    rw [dif_pos h]
    generalize dev h = dv at hd ⊢
    subst hd
    simp only [Prog.lift, Prog.bind_op, Prog.bind_ret, Prog.pure_eq_ret]
    unfold SndSt
    rw [take (pendS_mem hjk), ← pendS_succ hjk, doneS_succ hjk]
    have hO : recvDebt c (pendS c (pairNo c dv)) + ackDebt (before c)
        = (recvDebt c (pendS c (pairNo c dv + 1)) + ackDebt (before c)) + tallyAt (recvCell dv c) () N := by
      unfold recvDebt
      rw [pendS_succ hjk, ← Finset.sum_erase_add _ _ (pendS_mem hjk), add_right_comm]
    iintro ⟨#HR, ⟨%W, HO⟩, ⟨Hk, Hpend⟩, Hdone⟩ Hkk
    unfold sendRes slotAny slotAt totShare
    icases Hk with ⟨HtS, HtR, ⟨%fd, Hslot⟩, Htot⟩
    iapply (Rounds.wp_send_pointsTo 𝒱₀ ER (Rd m) (c : Thread nD τ) none (κ₁ := K (c, .inr (false, dv))) (κ₂ := K (dv, .inr (true, c)))
      (r₁ := 0) (r₂ := 0) (d₁ := dv) (d₂ := c) (fd := fd)
      (show dv ∈ (Rd m).duties (kcell (c, .inr (false, dv))) 0 by
        rw [duties_k]; dsimp only [dutK]; rw [if_pos hjk]; exact Finset.mem_singleton_self _)
      (show c ∈ (Rd m).duties (kcell (dv, .inr (true, c))) 0 by
        rw [duties_k]; dsimp only [dutK]; rw [if_pos hjk]; exact Finset.mem_singleton_self _)
      () () N (slotAmount c) (amount_k m c (.inr (false, dv)) dv) (amount_k m dv (.inr (true, c)) c)
      (recvDebt c (pendS c (pairNo c dv + 1)) + ackDebt (before c)) hO (W := W)
      (by rw [show (Rd m).payload (sendCell c dv) 0 dv = totShare m c dv from payload_k m c (.inr (false, dv)) dv]; exact BI.Entails.refl _)
      (by
        rw [show (Rd m).payload (recvCell dv c) 0 c = slotTot m dv c from payload_k m dv (.inr (true, c)) c]
        unfold slotTot slotAt
        iintro H
        iexists _
        isplitr
        rotate_left
        · iexact H
        · ipureintro
          rw [View.read_write_univ, View.read_whole])) $$ [HtS HtR Hslot Htot HO]
    · isplitr; · iapply (recs_inv m K c (.inr (false, dv))); iexact HR
      isplitr; · iapply (recs_inv m K dv (.inr (true, c))); iexact HR
      isplitl [Htot]; · iexact Htot
      isplitl [Hslot]; · iexact Hslot
      isplitl [HO]; · iexact HO
      isplitl [HtS]; · iexact HtS
      isplitr; · iapply (recs_reached m K c (.inr (false, dv))); iexact HR
      isplitl [HtR]; · iexact HtR
      iapply (recs_reached m K dv (.inr (true, c))); iexact HR
    iintro ⟨Hc, HO⟩
    iapply Hkk
    isplitl [HO]; · iexists W; iexact HO
    isplitl [Hpend]; · iexact Hpend
    iapply (add doneS_nmem (fun k => (cred (tallyAt (sendCell c k) () N) : sProp 𝕄)))
    isplitl [Hc] <;> iassumption
  · have hcj : c ≠ j := fun e => h (hC.2 e)
    rw [dif_neg h]
    unfold SndSt
    rw [pendS_other hjk hcj, doneS_other hjk hcj]
    iintro ⟨#HR, H⟩ Hk
    iapply Hk; iexact H

/-! ## Receiving -/

/-- The earlier devices from number `a` on. -/
def lowFrom (c : Dev nD) (a : ℕ) : Finset (Dev nD) := Finset.univ.filter fun j => j < c ∧ a ≤ j.val
/-- The earlier devices before number `a`. -/
def lowUpto (c : Dev nD) (a : ℕ) : Finset (Dev nD) := Finset.univ.filter fun j => j < c ∧ j.val < a

/-- At first every earlier device is left, -/
theorem lowFrom_zero (c : Dev nD) : lowFrom c 0 = before c := by revert c; decide
/-- and none is gone through; -/
theorem lowUpto_zero (c : Dev nD) : lowUpto c 0 = ∅ := by revert c; decide
/-- at the end none is left, -/
theorem lowFrom_end (c : Dev nD) : lowFrom c c.val = ∅ := by revert c; decide
/-- and all are gone through. -/
theorem lowUpto_end (c : Dev nD) : lowUpto c c.val = before c := by revert c; decide
/-- When its turn comes, `j` is left, -/
theorem lowFrom_mem {c j : Dev nD} (h : j < c) : j ∈ lowFrom c j.val := Finset.mem_filter.mpr ⟨Finset.mem_univ _, h, le_rfl⟩
/-- and not gone through yet; -/
theorem lowUpto_nmem {c j : Dev nD} : j ∉ lowUpto c j.val := fun h => Nat.lt_irrefl _ (Finset.mem_filter.mp h).2.2
/-- after it `j` is not left any more, -/
theorem lowFrom_succ (c j : Dev nD) : lowFrom c (j.val + 1) = (lowFrom c j.val).erase j := by revert c j; decide
/-- but gone through. -/
theorem lowUpto_succ {c j : Dev nD} (h : j < c) : lowUpto c (j.val + 1) = insert j (lowUpto c j.val) := by revert c j; decide

/-- Device `c` on its way through the receives: `w` rows waited for, `s` of them acknowledged. -/
def RcvSt (c : Dev nD) (w s : ℕ) : sProp 𝕄 :=
  iprop((∃ W, owes (c : Thread nD τ) (ackDebt (lowFrom c s)) W)
    ∗ bigSep (lowFrom c w) (fun j => iprop(cred (tallyAt (recvCell c j) () N) ∗ atPos ER (recvCell c j) 0 ∅ 0))
    ∗ bigSep (lowUpto c w) (fun j => iprop(atPos ER (recvCell c j) 1 ∅ 0 ∗ slotTot m c j))
    ∗ bigSep (lowFrom c s) (fun j => dutyTok ER (ackCell j) 0 c))

/-- The wait for device `j`'s row. -/
theorem recvWait_step (c j : Dev nD) (w s : ℕ) (hj : j < c) (hw : j.val = w) (rS : DmaSem sig) (hrS : rS = recvS j)
    {src : Memref sig .tc .vmem S1x1024 .f32} {hsrc : src.view.WordExact} {hdst : (slot j).view.WordExact}
    {α : Type} {Q : α → sProp 𝕄} {kk : PUnit.{1} → Prog (TpuEff nD τ sig (Elt F) Λ₀ .tc) α} :
    iprop(recs m K ∗ levAts L lv ∗ RcvSt m c w s)
      ⊢ iprop((RcvSt m c (w + 1) s -∗ wp frame (wpE (defs₀ (F := F)) 𝒱₀ (c : Thread nD τ) none) Set.univ (kk ⟨⟩) Q)
        -∗ wp frame (wpE (defs₀ (F := F)) 𝒱₀ (c : Thread nD τ) none) Set.univ
            ((Prog.lift (.waitDma2 rS src (slot j) hsrc hdst) : Prog (TpuEff nD τ sig (Elt F) Λ₀ .tc) PUnit) >>= kk) Q) := by
  subst hw hrS
  simp only [Prog.lift, Prog.bind_op, Prog.bind_ret, Prog.pure_eq_ret]
  unfold RcvSt
  rw [take (lowFrom_mem hj), ← lowFrom_succ, lowUpto_succ hj]
  iintro ⟨#HR, #Hlev, ⟨%W, HO⟩, ⟨⟨Hc, Hat⟩, Hrest⟩, Hgot, Htok⟩ Hk
  iapply (Rounds.wp_wait_rest_token 𝒱₀ ER (Rd m) (c : Thread nD τ) none (κ := K (c, .inr (true, j)))
      (wpE_waitDma2_eq 𝒱₀ (c : Thread nD τ) none Set.univ) (Set.mem_univ _) () (O := ackDebt (lowFrom c s)) (W := W) (R := 0) (m := 0) (T := ∅)
      (show 0 + (slot j).view.dmaCredit = (Rd m).expect (kcell (c, .inr (true, j))) 0 by
        rw [expect_k, slotAmount]; dsimp only [dutK, amtK]; rw [if_pos hj, Finset.card_singleton, one_mul, Nat.zero_add])) $$ [Hc HO Hat]
  · isplitr; · iapply (recs_inv m K c (.inr (true, j))); iexact HR
    isplitl [Hc]; · rw [slotAmount]; iexact Hc
    isplitl [HO]; · iexact HO
    isplitr
    · iapply (mayWait c (.dma (recvS j)) 2 (le_of_eq (lv_k c (.inr (true, j)) ())) (above_ack (by decide) _)); iexact Hlev
    iexact Hat
  iintro ⟨HO, Hat, -, Hpay⟩
  iapply Hk
  have hpay : bigSep ((Rd m).duties (recvCell c j) 0 \ ∅) (fun d => (Rd m).payload (recvCell c j) 0 d) ⊢ slotTot m c j := by
    have h1 : (Rd m).duties (recvCell c j) 0 = {j} := (duties_k m c (.inr (true, j))).trans (if_pos hj)
    rw [Finset.sdiff_empty, h1, bigSep_singleton]
    exact Entails.of_eq (payload_k m c (.inr (true, j)) j)
  isplitl [HO]; · iexists _; iexact HO
  isplitl [Hrest]; · iexact Hrest
  isplitr [Htok]
  · iapply (add lowUpto_nmem (fun j => iprop(atPos ER (recvCell c j) 1 ∅ 0 ∗ slotTot m c j)))
    isplitr [Hgot]
    · isplitl [Hat]; · iexact Hat
      iapply hpay; iexact Hpay
    iexact Hgot
  iexact Htok

/-- The acknowledgement of device `j`'s row. -/
theorem ack_step (c j : Dev nD) (w s : ℕ) (hj : j < c) (hs : j.val = s) (dv : Dev nD) (hdv : dv = j)
    {α : Type} {Q : α → sProp 𝕄} {kk : PUnit.{1} → Prog (TpuEff nD τ sig (Elt F) Λ₀ .tc) α} :
    iprop(recs m K ∗ RcvSt m c w s)
      ⊢ iprop((RcvSt m c w (s + 1) -∗ wp frame (wpE (defs₀ (F := F)) 𝒱₀ (c : Thread nD τ) none) Set.univ (kk ⟨⟩) Q)
        -∗ wp frame (wpE (defs₀ (F := F)) 𝒱₀ (c : Thread nD τ) none) Set.univ
            ((semSignalWord dv ackS 1#32 : Prog (TpuEff nD τ sig (Elt F) Λ₀ .tc) PUnit) >>= kk) Q) := by
  subst hs hdv
  simp only [semSignalWord, Prog.lift, Prog.bind_op, Prog.bind_ret, Prog.pure_eq_ret]
  unfold RcvSt
  rw [take (lowFrom_mem hj) (fun j => (dutyTok ER (ackCell j) 0 c : sProp 𝕄)), ← lowFrom_succ]
  have hO : ackDebt (lowFrom c dv.val) = ackDebt (lowFrom c (dv.val + 1)) + tallyAt (ackCell dv) () 1 := by
    unfold ackDebt
    rw [lowFrom_succ, Finset.sum_erase_add _ _ (lowFrom_mem hj)]
  iintro ⟨#HR, ⟨%W, HO⟩, Hrest, Hgot, ⟨Ht, Htok⟩⟩ Hk
  iapply (Rounds.wp_signal 𝒱₀ ER (Rd m) (c : Thread nD τ) none (dst := (dv : Thread nD τ)) (κ := K (dv, .inl true))
      (r := 0) (d := c) (show c ∈ (Rd m).duties (kcell (dv, .inl true)) 0 by
        rw [duties_k]; exact Finset.mem_filter.mpr ⟨Finset.mem_univ _, hj⟩)
      (((amount_k m dv (.inl true) c).trans rfl : (Rd m).amount (ackCell dv) 0 c = 1).trans (by decide)) () (ackDebt (lowFrom c (dv.val + 1))) hO) $$ [HO Ht]
  · isplitr; · iapply (recs_inv m K dv (.inl true)); iexact HR
    isplitl [HO]; · iexact HO
    isplitl [Ht]; · iexact Ht
    isplitr
    · iapply (Entails.of_eq (payload_k m dv (.inl true) c).symm)
      dsimp only [payK]; iempintro
    iapply (recs_reached m K dv (.inl true)); iexact HR
  iintro HO
  iapply Hk
  isplitl [HO]; · iexists W; iexact HO
  isplitl [Hrest]; · iexact Hrest
  isplitl [Hgot]; · iexact Hgot
  iexact Htok

/-! ## The waits at the end -/

/-- The later devices from number `a` on. -/
def highFrom (c : Dev nD) (a : ℕ) : Finset (Dev nD) := Finset.univ.filter fun k => c < k ∧ a ≤ k.val
/-- The later devices before number `a`. -/
def highUpto (c : Dev nD) (a : ℕ) : Finset (Dev nD) := Finset.univ.filter fun k => c < k ∧ k.val < a

/-- At first every later device is left, -/
theorem highFrom_start (c : Dev nD) : highFrom c (c.val + 1) = after c := by revert c; decide
/-- and none is gone through; -/
theorem highUpto_start (c : Dev nD) : highUpto c (c.val + 1) = ∅ := by revert c; decide
/-- at the end none is left, -/
theorem highFrom_end (c : Dev nD) : highFrom c 8 = ∅ := by revert c; decide
/-- and all are gone through. -/
theorem highUpto_end (c : Dev nD) : highUpto c 8 = after c := by revert c; decide
/-- When its turn comes, `k` is left, -/
theorem highFrom_mem {c k : Dev nD} (h : c < k) : k ∈ highFrom c k.val := Finset.mem_filter.mpr ⟨Finset.mem_univ _, h, le_rfl⟩
/-- and not gone through yet; -/
theorem highUpto_nmem {c k : Dev nD} : k ∉ highUpto c k.val := fun h => Nat.lt_irrefl _ (Finset.mem_filter.mp h).2.2
/-- after it `k` is not left any more, -/
theorem highFrom_succ (c k : Dev nD) : highFrom c (k.val + 1) = (highFrom c k.val).erase k := by revert c k; decide
/-- but gone through. -/
theorem highUpto_succ {c k : Dev nD} (h : c < k) : highUpto c (k.val + 1) = insert k (highUpto c k.val) := by revert c k; decide

/-- The owner's side of its acknowledgement cell, `a` of the later devices' units consumed. -/
def AckSt (c : Dev nD) (a : ℕ) : sProp 𝕄 :=
  if a < 7 - c.val then
    iprop(cred (tallyAt (ackCell c) () (7 - c.val - a)) ∗ ∃ T : Finset (Dev nD), ⌜T ⊆ after c⌝ ∗ atPos ER (ackCell c) 0 T a)
  else atPos ER (ackCell c) (if c.val < 7 then 1 else 0) ∅ 0

/-- Device `c` on its way through the waits at the end: waiting for the transfers to the devices from number `w` on,
    `a` acknowledgements consumed. It owes nothing any more. -/
def EndSt (c : Dev nD) (w a : ℕ) : sProp 𝕄 :=
  iprop((∃ W, owes (c : Thread nD τ) 0 W)
    ∗ bigSep (highFrom c w) (fun k => iprop(cred (tallyAt (sendCell c k) () N) ∗ atPos ER (sendCell c k) 0 ∅ 0))
    ∗ bigSep (highUpto c w) (fun k => iprop(atPos ER (sendCell c k) 1 ∅ 0 ∗ totShare m c k))
    ∗ AckSt (F := F) c a)

/-- The wait for the transfer to device `k`. -/
theorem sendWait_step (c k : Dev nD) (w a : ℕ) (hk : c < k) (hw : k.val = w) (sS : DmaSem sig) (hsS : sS = sendS k)
    {src : Memref sig .tc .vmem S1x1024 .f32} {hsrc : src.view.WordExact} {hdst : totM.view.WordExact}
    {α : Type} {Q : α → sProp 𝕄} {kk : PUnit.{1} → Prog (TpuEff nD τ sig (Elt F) Λ₀ .tc) α} :
    iprop(recs m K ∗ EndSt m c w a)
      ⊢ iprop((EndSt m c (w + 1) a -∗ wp frame (wpE (defs₀ (F := F)) 𝒱₀ (c : Thread nD τ) none) Set.univ (kk ⟨⟩) Q)
        -∗ wp frame (wpE (defs₀ (F := F)) 𝒱₀ (c : Thread nD τ) none) Set.univ
            ((Prog.lift (.waitDma2 sS src totM hsrc hdst) : Prog (TpuEff nD τ sig (Elt F) Λ₀ .tc) PUnit) >>= kk) Q) := by
  subst hw hsS
  simp only [Prog.lift, Prog.bind_op, Prog.bind_ret, Prog.pure_eq_ret]
  unfold EndSt
  rw [take (highFrom_mem hk), ← highFrom_succ, highUpto_succ hk]
  iintro ⟨#HR, ⟨%W, HO⟩, ⟨⟨Hc, Hat⟩, Hrest⟩, Hgot, Hack⟩ Hk
  iapply (Rounds.wp_wait_rest_token 𝒱₀ ER (Rd m) (c : Thread nD τ) none (κ := K (c, .inr (false, k)))
      (wpE_waitDma2_eq 𝒱₀ (c : Thread nD τ) none Set.univ) (Set.mem_univ _) () (O := 0) (W := W) (R := 0) (m := 0) (T := ∅)
      (show 0 + totM.view.dmaCredit = (Rd m).expect (kcell (c, .inr (false, k))) 0 by
        rw [expect_k, totAmount]; dsimp only [dutK, amtK]; rw [if_pos hk, Finset.card_singleton, one_mul, Nat.zero_add])) $$ [Hc HO Hat]
  · isplitr; · iapply (recs_inv m K c (.inr (false, k))); iexact HR
    isplitl [Hc]; · rw [totAmount]; iexact Hc
    isplitl [HO]; · iexact HO
    isplitr; · rw [MayWait_zero]; iempintro
    iexact Hat
  iintro ⟨HO, Hat, -, Hpay⟩
  iapply Hk
  have hpay : bigSep ((Rd m).duties (sendCell c k) 0 \ ∅) (fun d => (Rd m).payload (sendCell c k) 0 d) ⊢ totShare m c k := by
    have h1 : (Rd m).duties (sendCell c k) 0 = {k} := (duties_k m c (.inr (false, k))).trans (if_pos hk)
    rw [Finset.sdiff_empty, h1, bigSep_singleton]
    exact Entails.of_eq (payload_k m c (.inr (false, k)) k)
  isplitl [HO]; · iexists _; iexact HO
  isplitl [Hrest]; · iexact Hrest
  isplitr [Hack]
  · iapply (add highUpto_nmem (fun k => iprop(atPos ER (sendCell c k) 1 ∅ 0 ∗ totShare m c k)))
    isplitr [Hgot]
    · isplitl [Hat]; · iexact Hat
      iapply hpay; iexact Hpay
    iexact Hgot
  iexact Hack

/-- A device waits for one acknowledgement from each later device. -/
theorem ackExpect (c : Dev nD) : (Rd m).expect (ackCell c) 0 = 7 - c.val :=
  (expect_k m c (.inl true)).trans (by revert c; decide)

/-- The wait for one acknowledgement. -/
theorem ackWait_step (c : Dev nD) (w a : ℕ) (ha : a < 7 - c.val)
    {α : Type} {Q : α → sProp 𝕄} {kk : PUnit.{1} → Prog (TpuEff nD τ sig (Elt F) Λ₀ .tc) α} :
    iprop(recs m K ∗ EndSt m c w a)
      ⊢ iprop((EndSt m c w (a + 1) -∗ wp frame (wpE (defs₀ (F := F)) 𝒱₀ (c : Thread nD τ) none) Set.univ (kk ⟨⟩) Q)
        -∗ wp frame (wpE (defs₀ (F := F)) 𝒱₀ (c : Thread nD τ) none) Set.univ
            ((semWaitWord ackS 1#32 : Prog (TpuEff nD τ sig (Elt F) Λ₀ .tc) PUnit) >>= kk) Q) := by
  simp only [semWaitWord, Prog.lift, Prog.bind_op, Prog.bind_ret, Prog.pure_eq_ret]
  unfold EndSt AckSt
  rw [if_pos ha]
  iintro ⟨#HR, ⟨%W, HO⟩, Hrest, Hgot, Hc, ⟨%T, %hT, Hat⟩⟩ Hk
  by_cases hlast : a + 1 = 7 - c.val
  · rw [if_neg (by omega), if_pos (by omega), show 7 - c.val - a = 1 by omega]
    iapply (Rounds.wp_wait_rest_token 𝒱₀ ER (Rd m) (c : Thread nD τ) none (κ := K (c, .inl true))
        (wpE_semWait_eq 𝒱₀ (c : Thread nD τ) none Set.univ) (Set.mem_univ _) () (O := 0) (W := W) (R := 0) (m := a) (T := T)
        (show a + 1 = (Rd m).expect (ackCell c) 0 by rw [ackExpect]; exact hlast)) $$ [Hc HO Hat]
    · isplitr; · iapply (recs_inv m K c (.inl true)); iexact HR
      isplitl [Hc]; · iexact Hc
      isplitl [HO]; · iexact HO
      isplitr; · rw [MayWait_zero]; iempintro
      iexact Hat
    iintro ⟨HO, Hat, -, -⟩
    iapply Hk
    isplitl [HO]; · iexists _; iexact HO
    isplitl [Hrest]; · iexact Hrest
    isplitl [Hgot]; · iexact Hgot
    iexact Hat
  · rw [if_pos (show a + 1 < 7 - c.val by omega)]
    have hsplit : (tallyAt (ackCell c) () (7 - c.val - a) : CellTallies nD τ sig Unit)
        = tallyAt (ackCell c) () 1 + tallyAt (ackCell c) () (7 - c.val - (a + 1)) := by
      rw [tallyAt_add]; congr 1; omega
    rw [hsplit]
    ihave Hc' := (cred_add _ _).1 $$ Hc
    icases Hc' with ⟨Hc1, Hc2⟩
    iapply (Rounds.wp_wait 𝒱₀ ER (Rd m) (c : Thread nD τ) none (κ := K (c, .inl true))
        (wpE_semWait_eq 𝒱₀ (c : Thread nD τ) none Set.univ) (Set.mem_univ _) (cr := Finsupp.single () 1) (O := 0) (W := W) {(.reg ackS, ())} (R := 0) (m := a) (T := T)
        (by rw [Util.total_single]; decide) (image_single_subset (.reg ackS) () 1)) $$ [Hc1 HO Hat]
    · isplitr; · iapply (recs_inv m K c (.inl true)); iexact HR
      isplitl [Hc1]; · iexact Hc1
      isplitl [HO]; · iexact HO
      isplitr; · rw [MayOwe_zero]; iempintro
      iexact Hat
    iintro %S ⟨%hS, HO, Hat, -⟩
    iapply Hk
    isplitl [HO]; · iexists _; iexact HO
    isplitl [Hrest]; · iexact Hrest
    isplitl [Hgot]; · iexact Hgot
    isplitl [Hc2]; · iexact Hc2
    iexists S
    isplitr
    · ipureintro
      exact hS.2.1.trans (le_of_eq (duties_k m c (.inl true)))
    iexact Hat

end Cert.KernelIdeal.Scan
-- ==== Proof.KernelIdealLoad.lean ====
/-
# Loading the block and summing it

The block is copied in, in eight pieces, and its column totals are computed; then the device waits for the others.
-/
module

public import proofs.«01_k».proof.Proof.KernelIdealTransfers
public import Idealize.ShloMosaic.Lib.VecWindow

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The semaphore of the copy of piece `b` into the scratch. -/
abbrev inS (b : Fin 8) : DmaSem sig := ⟨b.val, by have h := b.isLt; show b.val < 26; omega⟩

/-- The copies into the scratch are at level 0. -/
theorem lv_in (c : Dev nD) (b : Fin 8) : lv ((c : Thread nD τ), .dma (inS b)) () = 0 := by
  unfold lv; show (kind (.dma (inS b))).elim 0 lvK = 0; revert b; decide

/-- The semaphores of the copies into the scratch, all at zero. -/
abbrev inZero (c : Dev nD) : sProp 𝕄 :=
  iprop(zero c (.dma ⟨0, by decide⟩) ∗ zero c (.dma ⟨1, by decide⟩) ∗ zero c (.dma ⟨2, by decide⟩) ∗ zero c (.dma ⟨3, by decide⟩)
        ∗ zero c (.dma ⟨4, by decide⟩) ∗ zero c (.dma ⟨5, by decide⟩) ∗ zero c (.dma ⟨6, by decide⟩) ∗ zero c (.dma ⟨7, by decide⟩))

/-- What is left of the totals row once the shares for the later devices are set apart. -/
abbrev totRest (c : Dev nD) : sProp 𝕄 :=
  iprop((totM.view.loc (c : Thread nD τ) ↦[totM.view.set]{Transfers.shareDrop fullShare 8} (totV m c : Buf (Elt F) (totM.view.loc (c : Thread nD τ))))
    ∗ bigSep (Finset.univ \ after c) (totShare m c))

/-- The scratch once blocks of its rows have been written with the rows of `X`. -/
theorem xv_filled (c : Dev nD) (f X : Buf (Elt F) (xvM.view.loc (c : Thread nD τ))) (L : List (View.Piece (Elt F) S2048x1024 .f32))
    (hG : ∀ p ∈ L, ∀ x : p.1.shape.Idx, p.2 x = X (p.1.emb x)) (hT : View.Piece.tiled L ![256, 1024] = true) :
    xvM.view.writes (Elt F) f L = X := by
  funext y
  exact View.read_writes_apply_of_pieces xvM.view f X L hG y (View.cover_of_tiled L _ hT y)

/-- What the sends need, gathered from what the device holds when the barrier is passed. -/
theorem snd_start (c : Dev nD) :
    iprop((∃ W, owes (c : Thread nD τ) (O₁ c) W) ∗ bigSep (after c) (fun k => slotAny (F := F) k c)
        ∗ bigSep (after c) (fun k => iprop(dutyTok ER (sendCell c k) 0 k ∗ dutyTok ER (recvCell k c) 0 c))
        ∗ held c totM (totV m c))
      ⊢ iprop(SndSt m c 0 ∗ totRest m c) := by
  unfold SndSt
  rw [pendS_zero, doneS_zero]
  have h1 : (held c totM (totV m c) : sProp 𝕄) ⊢ iprop((totM.view.loc (c : Thread nD τ) ↦[totM.view.set]{Transfers.shareDrop fullShare 8} (totV m c : Buf (Elt F) (totM.view.loc (c : Thread nD τ))))
      ∗ bigSep (after c) (totShare m c) ∗ bigSep (Finset.univ \ after c) (totShare m c)) := by
    unfold held
    rw [← View.set_whole cc0_scratch3]
    refine (Transfers.pointsTo_toks_split fullShare 8).trans (BI.sep_mono_r ?_)
    exact Entails.of_eq (bigSep_sdiff_split (Finset.subset_univ (after c)))
  iintro ⟨HO, Hs, Ht, Htot⟩
  ihave ⟨Hd, Hsh, Hrest⟩ := h1 $$ Htot
  isplitr [Hd Hrest]
  · isplitl [HO]; · iexact HO
    isplitl
    · unfold sendRes
      have h2 : iprop(bigSep (after c) (fun k => iprop(dutyTok ER (sendCell c k) 0 k ∗ dutyTok ER (recvCell k c) 0 c))
          ∗ bigSep (after c) (fun k => iprop(slotAny (F := F) k c ∗ totShare m c k)))
          ⊢ bigSep (after c) (fun k => iprop(dutyTok ER (sendCell c k) 0 k ∗ dutyTok ER (recvCell k c) 0 c ∗ slotAny k c ∗ totShare m c k)) :=
        (pair _ _ _).trans (bigSep_mono fun k _ => by
          show iprop((dutyTok ER (sendCell c k) 0 k ∗ dutyTok ER (recvCell k c) 0 c) ∗ slotAny k c ∗ totShare m c k)
            ⊢ iprop(dutyTok ER (sendCell c k) 0 k ∗ dutyTok ER (recvCell k c) 0 c ∗ slotAny k c ∗ totShare m c k)
          iintro ⟨⟨H1, H2⟩, H3, H4⟩
          isplitl [H1]; · iexact H1
          isplitl [H2]; · iexact H2
          isplitl [H3] <;> iassumption)
      iapply h2
      isplitl [Ht]; · iexact Ht
      iapply (pair (after c) (fun k => slotAny (F := F) k c) (totShare m c))
      isplitl [Hs] <;> iassumption
    · iapply (nothing (F := F))
  · isplitl [Hd] <;> iassumption

/-- The first send is device 0's. -/
theorem cond9 : ∀ c : Dev nD, k0_cond9 c = 1#1 ↔ c = 0 := by decide +kernel

set_option maxHeartbeats 4000000 in
/-- The rows copied into the scratch and their totals taken, the barrier's wait, and the first send. -/
theorem load_phase (c : Dev nD) (f0 : Buf (Elt F) (xvM.view.loc (c : Thread nD τ))) (f3 : Buf (Elt F) (totM.view.loc (c : Thread nD τ))) (W : Waits sig Unit)
    (v2 : BitVec 32) {Φ : BitVec 32 → sProp 𝕄} :
    iprop(recs m K ∗ levAts L lv ∗ owes (c : Thread nD τ) (O₁ c) W ∗ held c xM (xb m c) ∗ held c xvM f0 ∗ held c totM f3 ∗ inZero c
        ∗ cred (tallyAt (barCell c) () 7) ∗ atPos ER (barCell c) 0 ∅ 0
        ∗ bigSep (after c) (fun k => iprop(dutyTok ER (sendCell c k) 0 k ∗ dutyTok ER (recvCell k c) 0 c)))
      ⊢ iprop((SndSt m c 1 ∗ held c xM (xb m c) ∗ held c xvM (xb m c) ∗ totRest m c ∗ inZero c ∗ atPos ER (barCell c) 1 ∅ 0
            -∗ Φ (Scalar.extui (Scalar.cmpi .eq v2 0#32)))
        -∗ wp frame (wpE (defs₀ (F := F)) 𝒱₀ (c : Thread nD τ) none) Set.univ
            (onArgs (k0_part13 (F := F)) >>= fun _ => onArgs (k0_part14 (F := F)) >>= fun _ =>
              onArgs (k0_part15 (F := F)) c v2 (SemArray.scalar (sig.barrier 0 rfl))) Φ) := by
  unfold onArgs
  rw [k0_part13_eq_skeleton, k0_part14_eq_skeleton, k0_part15_eq_skeleton]
  unfold k0_part13_skel k0_part14_skel k0_part15_skel
  have hO : Above 0 (O₁ c) := (above_recv (by decide) c _).add (above_ack (by decide) _)
  have hmw : ∀ (i : Nat) (h : i < sig.nDmaSem) (h8 : i < 8),
      (levAts L lv : sProp 𝕄) ⊢ MayWait (c : Thread nD τ) (.dma ⟨i, h⟩) default (O₁ c) :=
    fun i h h8 => mayWait c (.dma (inS ⟨i, h8⟩)) 0 (le_of_eq (lv_in c ⟨i, h8⟩)) hO
  generalize hOO : O₁ c = O at hmw ⊢
  generalize hX : xb m c = X
  iintro ⟨#HR, #Hlev, HO, Hx, H0, H3, ⟨Hs0, Hs1, Hs2, Hs3, Hs4, Hs5, Hs6, Hs7⟩, Hcb, Hab, Htk⟩ Hk
  set_option sl_exec.dmaWindow true in sl_exec
  rw [xv_filled c f0 X _ (by
    intro p hp x
    simp only [List.mem_cons, List.not_mem_nil, or_false] at hp
    rcases hp with rfl | rfl | rfl | rfl | rfl | rfl | rfl | rfl <;> rfl) rfl]
  have hv : load_phase.sl.v93 X = X := by
    unfold load_phase.sl.v93
    unfold View.readCov
    rw [xv_filled c _ X _ (by
      intro p hp x
      simp only [List.mem_cons, List.not_mem_nil, or_false] at hp
      rcases hp with rfl | rfl | rfl | rfl | rfl | rfl | rfl | rfl <;> rfl) rfl]
    exact (View.readAt_full xvM.view X inb_S2048x1024_S2048x1024_0_0).trans (View.read_whole ..)
  rw [hv]
  have ht : totM.view.writes (Elt F) f3 [⟨Rect.unit ![0, 0] S1x1024.size inb_S1x1024_S1x1024_0_0, k0_pay1 X⟩] = totV m c := by
    rw [← hX]
    exact (View.read_whole ..).symm.trans (View.read_writes_full totM.view f3 inb_S1x1024_S1x1024_0_0 (k0_pay1 (xb m c)) [])
  rw [ht]
  subst hX
  subst hOO
  iapply (barWait_step m K c) $$ [HO Hcb Hab]
  · isplitr; · iexact HR
    isplitr; · iexact Hlev
    isplitl [HO]; · iexists _; iexact HO
    isplitl [Hcb] <;> iassumption
  iintro ⟨HO, Hab, Hsl⟩
  rw [wp_ret]
  imodintro
  ihave ⟨HS, Hrest⟩ := (snd_start m c) $$ [HO Hsl Htk H3]
  · isplitl [HO]; · iexact HO
    isplitl [Hsl]; · iexact Hsl
    isplitl [Htk]; · iexact Htk
    iexact H3
  dsimp only
  iapply (send_step m K c 0 1 0 (by decide) (by decide) _ (cond9 c) _ (fun h => Fin.ext k0_dev9_eq) _ _ rfl rfl) $$ [HS]
  · isplitr <;> iassumption
  iintro HS
  rw [Prog.pure_eq_ret, wp_ret]
  imodintro
  iapply Hk
  isplitl [HS]; · iexact HS
  isplitl [Hx]; · iexact Hx
  isplitl [H0]; · iexact H0
  isplitl [Hrest]; · iexact Hrest
  isplitr [Hab]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6] <;> iassumption
  iexact Hab

end Cert.KernelIdeal.Scan
-- ==== Proof.KernelIdealSends.lean ====
/-
# The barrier's signals and the sends, part by part

The program goes through the other devices, signalling each, and then through the pairs of an earlier and a later
device, each time asking whether it is the earlier one. Every theorem here runs one printed part from the state before
it to the state after it.
-/
module

public import proofs.«01_k».proof.Proof.KernelIdealHandshake
public import proofs.«01_k».proof.Proof.KernelIdealTransfers

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The device's number as the program computes it. -/
abbrev me (c : Dev nD) : BitVec 32 := Scalar.remsi (Scalar.divsi (Dev.word c) 1#32) 8#32

/-- The signals. -/
theorem signals (c : Dev nD) {Φ : (Σ' (d0 : Dev nD) (v2 : BitVec 32), Sems sig S_) → sProp 𝕄} :
    iprop(recs m K ∗ SigSt m c 0)
      ⊢ iprop((SigSt m c 8 -∗ Φ ⟨c, me c, SemArray.scalar (sig.barrier 0 rfl)⟩)
        -∗ wp frame (wpE (defs₀ (F := F)) 𝒱₀ (c : Thread nD τ) none) Set.univ (onArgs (k0_part12 (F := F))) Φ) := by
  unfold onArgs
  rw [k0_part12_eq_skeleton]
  unfold k0_part12_skel
  iintro ⟨#HR, HS⟩ Hk
  iapply device_step
  iapply (sig_step m K c 0 0 rfl _ ((by decide +kernel : ∀ c : Dev nD, k0_cond1 c = 1#1 ↔ c ≠ 0) c) _ (fun _ => Fin.ext k0_dev1_eq)) $$ [HS]
  · isplitr <;> iassumption
  iintro HS
  iapply (sig_step m K c 1 1 rfl _ ((by decide +kernel : ∀ c : Dev nD, k0_cond2 c = 1#1 ↔ c ≠ 1) c) _ (fun _ => Fin.ext k0_dev2_eq)) $$ [HS]
  · isplitr <;> iassumption
  iintro HS
  iapply (sig_step m K c 2 2 rfl _ ((by decide +kernel : ∀ c : Dev nD, k0_cond3 c = 1#1 ↔ c ≠ 2) c) _ (fun _ => Fin.ext k0_dev3_eq)) $$ [HS]
  · isplitr <;> iassumption
  iintro HS
  iapply (sig_step m K c 3 3 rfl _ ((by decide +kernel : ∀ c : Dev nD, k0_cond4 c = 1#1 ↔ c ≠ 3) c) _ (fun _ => Fin.ext k0_dev4_eq)) $$ [HS]
  · isplitr <;> iassumption
  iintro HS
  iapply (sig_step m K c 4 4 rfl _ ((by decide +kernel : ∀ c : Dev nD, k0_cond5 c = 1#1 ↔ c ≠ 4) c) _ (fun _ => Fin.ext k0_dev5_eq)) $$ [HS]
  · isplitr <;> iassumption
  iintro HS
  iapply (sig_step m K c 5 5 rfl _ ((by decide +kernel : ∀ c : Dev nD, k0_cond6 c = 1#1 ↔ c ≠ 5) c) _ (fun _ => Fin.ext k0_dev6_eq)) $$ [HS]
  · isplitr <;> iassumption
  iintro HS
  iapply (sig_step m K c 6 6 rfl _ ((by decide +kernel : ∀ c : Dev nD, k0_cond7 c = 1#1 ↔ c ≠ 6) c) _ (fun _ => Fin.ext k0_dev7_eq)) $$ [HS]
  · isplitr <;> iassumption
  iintro HS
  iapply (sig_step m K c 7 7 rfl _ ((by decide +kernel : ∀ c : Dev nD, k0_cond8 c = 1#1 ↔ c ≠ 7) c) _ (fun _ => Fin.ext k0_dev8_eq)) $$ [HS]
  · isplitr <;> iassumption
  iintro HS
  rw [Prog.pure_eq_ret, wp_ret]
  imodintro
  iapply Hk; iexact HS

/-- The pairs numbered 1 to 10. -/
theorem sends16 (c : Dev nD) (v2 w : BitVec 32) {Φ : BitVec 32 → sProp 𝕄} :
    iprop(recs m K ∗ SndSt m c 1)
      ⊢ iprop((∀ w', SndSt m c 11 -∗ Φ w')
        -∗ wp frame (wpE (defs₀ (F := F)) 𝒱₀ (c : Thread nD τ) none) Set.univ (onArgs (k0_part16 (F := F)) c v2 w) Φ) := by
  unfold onArgs
  rw [k0_part16_eq_skeleton]
  unfold k0_part16_skel
  iintro ⟨#HR, HS⟩ Hk
  iapply (send_step m K c 0 2 1 (by decide) (by decide) _ ((by decide +kernel : ∀ c : Dev nD, k0_cond10 c = 1#1 ↔ c = 0) c) _ (fun _ => Fin.ext k0_dev10_eq) _ _ rfl rfl) $$ [HS]
  · isplitr <;> iassumption
  iintro HS
  iapply (send_step m K c 0 3 2 (by decide) (by decide) _ ((by decide +kernel : ∀ c : Dev nD, k0_cond11 c = 1#1 ↔ c = 0) c) _ (fun _ => Fin.ext k0_dev11_eq) _ _ rfl rfl) $$ [HS]
  · isplitr <;> iassumption
  iintro HS
  iapply (send_step m K c 0 4 3 (by decide) (by decide) _ ((by decide +kernel : ∀ c : Dev nD, k0_cond12 c = 1#1 ↔ c = 0) c) _ (fun _ => Fin.ext k0_dev12_eq) _ _ rfl rfl) $$ [HS]
  · isplitr <;> iassumption
  iintro HS
  iapply (send_step m K c 0 5 4 (by decide) (by decide) _ ((by decide +kernel : ∀ c : Dev nD, k0_cond13 c = 1#1 ↔ c = 0) c) _ (fun _ => Fin.ext k0_dev13_eq) _ _ rfl rfl) $$ [HS]
  · isplitr <;> iassumption
  iintro HS
  iapply (send_step m K c 0 6 5 (by decide) (by decide) _ ((by decide +kernel : ∀ c : Dev nD, k0_cond14 c = 1#1 ↔ c = 0) c) _ (fun _ => Fin.ext k0_dev14_eq) _ _ rfl rfl) $$ [HS]
  · isplitr <;> iassumption
  iintro HS
  iapply (send_step m K c 0 7 6 (by decide) (by decide) _ ((by decide +kernel : ∀ c : Dev nD, k0_cond15 c = 1#1 ↔ c = 0) c) _ (fun _ => Fin.ext k0_dev15_eq) _ _ rfl rfl) $$ [HS]
  · isplitr <;> iassumption
  iintro HS
  iapply (send_step m K c 1 2 7 (by decide) (by decide) _ ((by decide +kernel : ∀ c : Dev nD, k0_cond16 c = 1#1 ↔ c = 1) c) _ (fun _ => Fin.ext k0_dev16_eq) _ _ rfl rfl) $$ [HS]
  · isplitr <;> iassumption
  iintro HS
  iapply (send_step m K c 1 3 8 (by decide) (by decide) _ ((by decide +kernel : ∀ c : Dev nD, k0_cond17 c = 1#1 ↔ c = 1) c) _ (fun _ => Fin.ext k0_dev17_eq) _ _ rfl rfl) $$ [HS]
  · isplitr <;> iassumption
  iintro HS
  iapply (send_step m K c 1 4 9 (by decide) (by decide) _ ((by decide +kernel : ∀ c : Dev nD, k0_cond18 c = 1#1 ↔ c = 1) c) _ (fun _ => Fin.ext k0_dev18_eq) _ _ rfl rfl) $$ [HS]
  · isplitr <;> iassumption
  iintro HS
  iapply (send_step m K c 1 5 10 (by decide) (by decide) _ ((by decide +kernel : ∀ c : Dev nD, k0_cond19 c = 1#1 ↔ c = 1) c) _ (fun _ => Fin.ext k0_dev19_eq) _ _ rfl rfl) $$ [HS]
  · isplitr <;> iassumption
  iintro HS
  rw [Prog.pure_eq_ret, wp_ret]
  imodintro
  iapply Hk; iexact HS

/-- The pairs numbered 11 to 20. -/
theorem sends17 (c : Dev nD) (v2 w : BitVec 32) {Φ : BitVec 32 → sProp 𝕄} :
    iprop(recs m K ∗ SndSt m c 11)
      ⊢ iprop((∀ w', SndSt m c 21 -∗ Φ w')
        -∗ wp frame (wpE (defs₀ (F := F)) 𝒱₀ (c : Thread nD τ) none) Set.univ (onArgs (k0_part17 (F := F)) c v2 w) Φ) := by
  unfold onArgs
  rw [k0_part17_eq_skeleton]
  unfold k0_part17_skel
  iintro ⟨#HR, HS⟩ Hk
  iapply (send_step m K c 1 6 11 (by decide) (by decide) _ ((by decide +kernel : ∀ c : Dev nD, k0_cond20 c = 1#1 ↔ c = 1) c) _ (fun _ => Fin.ext k0_dev20_eq) _ _ rfl rfl) $$ [HS]
  · isplitr <;> iassumption
  iintro HS
  iapply (send_step m K c 1 7 12 (by decide) (by decide) _ ((by decide +kernel : ∀ c : Dev nD, k0_cond21 c = 1#1 ↔ c = 1) c) _ (fun _ => Fin.ext k0_dev21_eq) _ _ rfl rfl) $$ [HS]
  · isplitr <;> iassumption
  iintro HS
  iapply (send_step m K c 2 3 13 (by decide) (by decide) _ ((by decide +kernel : ∀ c : Dev nD, k0_cond22 c = 1#1 ↔ c = 2) c) _ (fun _ => Fin.ext k0_dev22_eq) _ _ rfl rfl) $$ [HS]
  · isplitr <;> iassumption
  iintro HS
  iapply (send_step m K c 2 4 14 (by decide) (by decide) _ ((by decide +kernel : ∀ c : Dev nD, k0_cond23 c = 1#1 ↔ c = 2) c) _ (fun _ => Fin.ext k0_dev23_eq) _ _ rfl rfl) $$ [HS]
  · isplitr <;> iassumption
  iintro HS
  iapply (send_step m K c 2 5 15 (by decide) (by decide) _ ((by decide +kernel : ∀ c : Dev nD, k0_cond24 c = 1#1 ↔ c = 2) c) _ (fun _ => Fin.ext k0_dev24_eq) _ _ rfl rfl) $$ [HS]
  · isplitr <;> iassumption
  iintro HS
  iapply (send_step m K c 2 6 16 (by decide) (by decide) _ ((by decide +kernel : ∀ c : Dev nD, k0_cond25 c = 1#1 ↔ c = 2) c) _ (fun _ => Fin.ext k0_dev25_eq) _ _ rfl rfl) $$ [HS]
  · isplitr <;> iassumption
  iintro HS
  iapply (send_step m K c 2 7 17 (by decide) (by decide) _ ((by decide +kernel : ∀ c : Dev nD, k0_cond26 c = 1#1 ↔ c = 2) c) _ (fun _ => Fin.ext k0_dev26_eq) _ _ rfl rfl) $$ [HS]
  · isplitr <;> iassumption
  iintro HS
  iapply (send_step m K c 3 4 18 (by decide) (by decide) _ ((by decide +kernel : ∀ c : Dev nD, k0_cond27 c = 1#1 ↔ c = 3) c) _ (fun _ => Fin.ext k0_dev27_eq) _ _ rfl rfl) $$ [HS]
  · isplitr <;> iassumption
  iintro HS
  iapply (send_step m K c 3 5 19 (by decide) (by decide) _ ((by decide +kernel : ∀ c : Dev nD, k0_cond28 c = 1#1 ↔ c = 3) c) _ (fun _ => Fin.ext k0_dev28_eq) _ _ rfl rfl) $$ [HS]
  · isplitr <;> iassumption
  iintro HS
  iapply (send_step m K c 3 6 20 (by decide) (by decide) _ ((by decide +kernel : ∀ c : Dev nD, k0_cond29 c = 1#1 ↔ c = 3) c) _ (fun _ => Fin.ext k0_dev29_eq) _ _ rfl rfl) $$ [HS]
  · isplitr <;> iassumption
  iintro HS
  rw [Prog.pure_eq_ret, wp_ret]
  imodintro
  iapply Hk; iexact HS

end Cert.KernelIdeal.Scan
-- ==== Proof.KernelIdealReceives.lean ====
/-
# The receives

A device receives the rows of the earlier devices in their order, each followed by an acknowledgement. The program asks
in turn whether the device is number 1, 2, …, 7, and under each question lists that many receives.
-/
module

public import proofs.«01_k».proof.Proof.KernelIdealSends
public import Idealize.ShloMosaic.Lib.VecWindow

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- A conditional whose two ways lead to the same state. -/
theorem if_step (c : Dev nD) {C : Prop} [Decidable C] {P P' : sProp 𝕄} {α : Type} {Q : α → sProp 𝕄}
    {A : C → Prog (TpuEff nD τ sig (Elt F) Λ₀ .tc) α} {p : Prog (TpuEff nD τ sig (Elt F) Λ₀ .tc) α}
    (h0 : ¬ C → P ⊢ P') :
    iprop(P ∗ (∀ h : C, P -∗ (P' -∗ wp frame (wpE (defs₀ (F := F)) 𝒱₀ (c : Thread nD τ) none) Set.univ p Q)
        -∗ wp frame (wpE (defs₀ (F := F)) 𝒱₀ (c : Thread nD τ) none) Set.univ (A h) Q))
      ⊢ iprop((P' -∗ wp frame (wpE (defs₀ (F := F)) 𝒱₀ (c : Thread nD τ) none) Set.univ p Q)
        -∗ wp frame (wpE (defs₀ (F := F)) 𝒱₀ (c : Thread nD τ) none) Set.univ (if h : C then A h else p) Q) := by
  by_cases h : C
  · rw [dif_pos h]
    iintro ⟨HP, H⟩ Hk
    ispecialize H $$ %h
    iapply H $$ HP Hk
  · rw [dif_neg h]
    have := h0 h
    iintro ⟨HP, -⟩ Hk
    iapply Hk; iapply this; iexact HP

/-- Before the question whether the device is number `J`: all received if its number is smaller, else nothing yet. -/
abbrev RcvAt (c : Dev nD) (J : ℕ) : sProp 𝕄 :=
  iprop(recs m K ∗ levAts L lv ∗ RcvSt m c (if c.val < J then c.val else 0) (if c.val < J then c.val else 0))

/-- A device other than number `J` passes the question unchanged. -/
theorem rcvAt_next (c : Dev nD) (J : ℕ) (h : c.val ≠ J) : RcvAt m K c J ⊢ RcvAt m K c (J + 1) := by
  have e : (if c.val < J then c.val else 0) = (if c.val < J + 1 then c.val else 0) := by split <;> split <;> omega
  exact Entails.of_eq (by unfold RcvAt; rw [e])

/-- Device `j`'s row received and acknowledged. -/
theorem rcv_pair (c j : Dev nD) (w : ℕ) (hj : j < c) (hw : j.val = w) (rS : DmaSem sig) (hrS : rS = recvS j) (dv : Dev nD) (hdv : dv = j)
    {src : Memref sig .tc .vmem S1x1024 .f32} {hsrc : src.view.WordExact} {hdst : (slot j).view.WordExact}
    {α : Type} {Q : α → sProp 𝕄} {kk : PUnit.{1} → Prog (TpuEff nD τ sig (Elt F) Λ₀ .tc) α} :
    iprop(recs m K ∗ levAts L lv ∗ RcvSt m c w w)
      ⊢ iprop((RcvSt m c (w + 1) (w + 1) -∗ wp frame (wpE (defs₀ (F := F)) 𝒱₀ (c : Thread nD τ) none) Set.univ (kk ⟨⟩) Q)
        -∗ wp frame (wpE (defs₀ (F := F)) 𝒱₀ (c : Thread nD τ) none) Set.univ
            ((Prog.lift (.waitDma2 rS src (slot j) hsrc hdst) : Prog (TpuEff nD τ sig (Elt F) Λ₀ .tc) PUnit) >>= fun _ =>
              (semSignalWord dv ackS 1#32 : Prog (TpuEff nD τ sig (Elt F) Λ₀ .tc) PUnit) >>= kk) Q) := by
  iintro ⟨#HR, #Hlev, HS⟩ Hk
  iapply (recvWait_step m K c j w w hj hw rS hrS) $$ [HS]
  · isplitr; · iexact HR
    isplitr <;> iassumption
  iintro HS
  iapply (ack_step m K c j (w + 1) w hj hw dv hdv) $$ [HS]
  · isplitr <;> iassumption
  iexact Hk

/-- The first receives of device 3, up to the wait for device 2's row. -/
theorem receives1 (c : Dev nD) (hc : c = 3) (h : k0_cond39 c = 1#1) {α : Type} {Q : α → sProp 𝕄}
    {kk : PUnit.{1} → Prog (TpuEff nD τ sig (Elt F) Λ₀ .tc) α} :
    iprop(recs m K ∗ levAts L lv ∗ RcvSt m c 0 0) ⊢ iprop((RcvSt m c 3 2 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part1 (F := F)) c h >>= kk) Q) := by
  rw [wp_bind]
  unfold onArgs
  rw [k0_part1_eq_skeleton]
  unfold k0_part1_skel
  iintro ⟨#HR, #Hlev, HS⟩ Hk
  iapply (rcv_pair m K c 0 0 (by subst hc; decide) rfl _ rfl _ (Fin.ext k0_dev40_eq)) $$ [HS]
  · isplitr; · iexact HR
    isplitr <;> iassumption
  iintro HS
  iapply (rcv_pair m K c 1 1 (by subst hc; decide) rfl _ rfl _ (Fin.ext k0_dev41_eq)) $$ [HS]
  · isplitr; · iexact HR
    isplitr <;> iassumption
  iintro HS
  iapply (recvWait_step m K c 2 2 2 (by subst hc; decide) rfl _ rfl) $$ [HS]
  · isplitr; · iexact HR
    isplitr <;> iassumption
  iintro HS
  rw [Prog.pure_eq_ret, wp_ret]
  imodintro
  iapply Hk; iexact HS

/-- The first receives of device 4, up to the wait for device 2's row. -/
theorem receives2 (c : Dev nD) (hc : c = 4) (h : k0_cond40 c = 1#1) {α : Type} {Q : α → sProp 𝕄}
    {kk : PUnit.{1} → Prog (TpuEff nD τ sig (Elt F) Λ₀ .tc) α} :
    iprop(recs m K ∗ levAts L lv ∗ RcvSt m c 0 0) ⊢ iprop((RcvSt m c 3 2 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part2 (F := F)) c h >>= kk) Q) := by
  rw [wp_bind]
  unfold onArgs
  rw [k0_part2_eq_skeleton]
  unfold k0_part2_skel
  iintro ⟨#HR, #Hlev, HS⟩ Hk
  iapply (rcv_pair m K c 0 0 (by subst hc; decide) rfl _ rfl _ (Fin.ext k0_dev43_eq)) $$ [HS]
  · isplitr; · iexact HR
    isplitr <;> iassumption
  iintro HS
  iapply (rcv_pair m K c 1 1 (by subst hc; decide) rfl _ rfl _ (Fin.ext k0_dev44_eq)) $$ [HS]
  · isplitr; · iexact HR
    isplitr <;> iassumption
  iintro HS
  iapply (recvWait_step m K c 2 2 2 (by subst hc; decide) rfl _ rfl) $$ [HS]
  · isplitr; · iexact HR
    isplitr <;> iassumption
  iintro HS
  rw [Prog.pure_eq_ret, wp_ret]
  imodintro
  iapply Hk; iexact HS

/-- The first receives of device 5, up to the wait for device 2's row. -/
theorem receives3 (c : Dev nD) (hc : c = 5) (h : k0_cond41 c = 1#1) {α : Type} {Q : α → sProp 𝕄}
    {kk : PUnit.{1} → Prog (TpuEff nD τ sig (Elt F) Λ₀ .tc) α} :
    iprop(recs m K ∗ levAts L lv ∗ RcvSt m c 0 0) ⊢ iprop((RcvSt m c 3 2 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part3 (F := F)) c h >>= kk) Q) := by
  rw [wp_bind]
  unfold onArgs
  rw [k0_part3_eq_skeleton]
  unfold k0_part3_skel
  iintro ⟨#HR, #Hlev, HS⟩ Hk
  iapply (rcv_pair m K c 0 0 (by subst hc; decide) rfl _ rfl _ (Fin.ext k0_dev47_eq)) $$ [HS]
  · isplitr; · iexact HR
    isplitr <;> iassumption
  iintro HS
  iapply (rcv_pair m K c 1 1 (by subst hc; decide) rfl _ rfl _ (Fin.ext k0_dev48_eq)) $$ [HS]
  · isplitr; · iexact HR
    isplitr <;> iassumption
  iintro HS
  iapply (recvWait_step m K c 2 2 2 (by subst hc; decide) rfl _ rfl) $$ [HS]
  · isplitr; · iexact HR
    isplitr <;> iassumption
  iintro HS
  rw [Prog.pure_eq_ret, wp_ret]
  imodintro
  iapply Hk; iexact HS

/-- The first receives of device 6, up to the wait for device 2's row. -/
theorem receives4 (c : Dev nD) (hc : c = 6) (h : k0_cond42 c = 1#1) {α : Type} {Q : α → sProp 𝕄}
    {kk : PUnit.{1} → Prog (TpuEff nD τ sig (Elt F) Λ₀ .tc) α} :
    iprop(recs m K ∗ levAts L lv ∗ RcvSt m c 0 0) ⊢ iprop((RcvSt m c 3 2 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part4 (F := F)) c h >>= kk) Q) := by
  rw [wp_bind]
  unfold onArgs
  rw [k0_part4_eq_skeleton]
  unfold k0_part4_skel
  iintro ⟨#HR, #Hlev, HS⟩ Hk
  iapply (rcv_pair m K c 0 0 (by subst hc; decide) rfl _ rfl _ (Fin.ext k0_dev52_eq)) $$ [HS]
  · isplitr; · iexact HR
    isplitr <;> iassumption
  iintro HS
  iapply (rcv_pair m K c 1 1 (by subst hc; decide) rfl _ rfl _ (Fin.ext k0_dev53_eq)) $$ [HS]
  · isplitr; · iexact HR
    isplitr <;> iassumption
  iintro HS
  iapply (recvWait_step m K c 2 2 2 (by subst hc; decide) rfl _ rfl) $$ [HS]
  · isplitr; · iexact HR
    isplitr <;> iassumption
  iintro HS
  rw [Prog.pure_eq_ret, wp_ret]
  imodintro
  iapply Hk; iexact HS

/-- The first receives of device 7, up to the wait for device 2's row. -/
theorem receives6 (c : Dev nD) (hc : c = 7) (h : k0_cond43 c = 1#1) {α : Type} {Q : α → sProp 𝕄}
    {kk : PUnit.{1} → Prog (TpuEff nD τ sig (Elt F) Λ₀ .tc) α} :
    iprop(recs m K ∗ levAts L lv ∗ RcvSt m c 0 0) ⊢ iprop((RcvSt m c 3 2 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part6 (F := F)) c h >>= kk) Q) := by
  rw [wp_bind]
  unfold onArgs
  rw [k0_part6_eq_skeleton]
  unfold k0_part6_skel
  iintro ⟨#HR, #Hlev, HS⟩ Hk
  iapply (rcv_pair m K c 0 0 (by subst hc; decide) rfl _ rfl _ (Fin.ext k0_dev58_eq)) $$ [HS]
  · isplitr; · iexact HR
    isplitr <;> iassumption
  iintro HS
  iapply (rcv_pair m K c 1 1 (by subst hc; decide) rfl _ rfl _ (Fin.ext k0_dev59_eq)) $$ [HS]
  · isplitr; · iexact HR
    isplitr <;> iassumption
  iintro HS
  iapply (recvWait_step m K c 2 2 2 (by subst hc; decide) rfl _ rfl) $$ [HS]
  · isplitr; · iexact HR
    isplitr <;> iassumption
  iintro HS
  rw [Prog.pure_eq_ret, wp_ret]
  imodintro
  iapply Hk; iexact HS

/-- The receives of device 6 from there up to the acknowledgement of device 4's row. -/
theorem receives5 (c : Dev nD) (hc : c = 6) (h : k0_cond42 c = 1#1) {α : Type} {Q : α → sProp 𝕄}
    {kk : PUnit.{1} → Prog (TpuEff nD τ sig (Elt F) Λ₀ .tc) α} :
    iprop(recs m K ∗ levAts L lv ∗ RcvSt m c 3 2) ⊢ iprop((RcvSt m c 5 5 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part5 (F := F)) c h >>= kk) Q) := by
  rw [wp_bind]
  unfold onArgs
  rw [k0_part5_eq_skeleton]
  unfold k0_part5_skel
  iintro ⟨#HR, #Hlev, HS⟩ Hk
  iapply (ack_step m K c 2 3 2 (by subst hc; decide) rfl _ (Fin.ext k0_dev54_eq)) $$ [HS]
  · isplitr <;> iassumption
  iintro HS
  iapply (rcv_pair m K c 3 3 (by subst hc; decide) rfl _ rfl _ (Fin.ext k0_dev55_eq)) $$ [HS]
  · isplitr; · iexact HR
    isplitr <;> iassumption
  iintro HS
  iapply (rcv_pair m K c 4 4 (by subst hc; decide) rfl _ rfl _ (Fin.ext k0_dev56_eq)) $$ [HS]
  · isplitr; · iexact HR
    isplitr <;> iassumption
  iintro HS
  rw [Prog.pure_eq_ret, wp_ret]
  imodintro
  iapply Hk; iexact HS

/-- The receives of device 7 from there up to the acknowledgement of device 4's row. -/
theorem receives7 (c : Dev nD) (hc : c = 7) (h : k0_cond43 c = 1#1) {α : Type} {Q : α → sProp 𝕄}
    {kk : PUnit.{1} → Prog (TpuEff nD τ sig (Elt F) Λ₀ .tc) α} :
    iprop(recs m K ∗ levAts L lv ∗ RcvSt m c 3 2) ⊢ iprop((RcvSt m c 5 5 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part7 (F := F)) c h >>= kk) Q) := by
  rw [wp_bind]
  unfold onArgs
  rw [k0_part7_eq_skeleton]
  unfold k0_part7_skel
  iintro ⟨#HR, #Hlev, HS⟩ Hk
  iapply (ack_step m K c 2 3 2 (by subst hc; decide) rfl _ (Fin.ext k0_dev60_eq)) $$ [HS]
  · isplitr <;> iassumption
  iintro HS
  iapply (rcv_pair m K c 3 3 (by subst hc; decide) rfl _ rfl _ (Fin.ext k0_dev61_eq)) $$ [HS]
  · isplitr; · iexact HR
    isplitr <;> iassumption
  iintro HS
  iapply (rcv_pair m K c 4 4 (by subst hc; decide) rfl _ rfl _ (Fin.ext k0_dev62_eq)) $$ [HS]
  · isplitr; · iexact HR
    isplitr <;> iassumption
  iintro HS
  rw [Prog.pure_eq_ret, wp_ret]
  imodintro
  iapply Hk; iexact HS

end Cert.KernelIdeal.Scan
-- ==== Proof.KernelIdealLanding.lean ====
/-
# The landing buffer after the receives
-/
module

public import proofs.«01_k».proof.Proof.KernelIdealReceives
public import Idealize.ShloMosaic.Lib.VecWindow

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The slots of the landing buffer -/

/-- A slot's elements are its rectangle's. -/
theorem slot_set (j : Dev nD) : (slot j).view.set = (slotR j).set :=
  (View.set_reshape _ _).trans (View.set_slice_whole cc0_scratch4 (slotR j))

/-- Two slots share no element, -/
theorem slots_disjoint (j k : Dev nD) (h : j ≠ k) : Disjoint (slot j).view.set (slot k).view.set := by
  rw [slot_set, slot_set, Finset.disjoint_left]
  intro i hj hk
  have h1 := Rect.mem_set_unit.mp hj 0
  have h2 := Rect.mem_set_unit.mp hk 0
  have e1 : S1x1x1024.size 0 = 1 := rfl
  simp only [Matrix.cons_val_zero] at h1 h2
  exact h (Fin.ext (by omega))

/-- Slot `j`'s elements among those of device `c`'s landing buffer. -/
abbrev slotSet (c j : Dev nD) : Finset (Idx (rcvM.view.loc (c : Thread nD τ))) := (slot j).view.set

/-- and all of them make up the buffer. -/
theorem slots_cover (c : Dev nD) : Finset.univ.biUnion (slotSet c) = Finset.univ := by
  refine Finset.eq_univ_iff_forall.mpr fun i => Finset.mem_biUnion.mpr ⟨⟨(i 0).val, (i 0).isLt⟩, Finset.mem_univ _, ?_⟩
  rw [show slotSet c ⟨(i 0).val, (i 0).isLt⟩ = (slotR ⟨(i 0).val, (i 0).isLt⟩).set from slot_set _]
  refine Rect.mem_set_unit.mpr fun a => ?_
  have e1 : S1x1x1024.size 0 = 1 := rfl
  match a with
  | ⟨0, _⟩ => exact ⟨le_rfl, Nat.lt_succ_self _⟩
  | ⟨1, _⟩ => exact ⟨Nat.zero_le _, (Nat.zero_add _).symm ▸ (i 1).isLt⟩
  | ⟨2, _⟩ => exact ⟨Nat.zero_le _, (Nat.zero_add _).symm ▸ (i 2).isLt⟩

omit [FloatOps F] in
/-- The landing buffer is its slots: those of the earlier devices, and the device's own remaining ones. -/
theorem slots_split (c : Dev nD) (f : Buf (Elt F) (rcvM.view.loc (c : Thread nD τ))) :
    held c rcvM f ⊢ iprop(bigSep (before c) (fun j => slotAny (F := F) c j) ∗ bigSep (Finset.univ \ before c) (fun j => slotAny (F := F) c j)) := by
  unfold held
  rw [← slots_cover c]
  refine (Entails.of_eq (pointsTo_biUnion (ℓ := rcvM.view.loc (c : Thread nD τ)) (f := f) Finset.univ (slotSet c) fun j _ k _ h => slots_disjoint j k h)).trans ?_
  rw [bigSep_sdiff_split (Finset.subset_univ (before c))]
  have h : ∀ j : Dev nD, (rcvM.view.loc (c : Thread nD τ) ↦[(slot j).view.set]{fullShare} f : sProp 𝕄) ⊢ slotAny c j := fun j => by
    unfold slotAny slotAt
    iintro H
    iexists f; iexact H
  exact BI.sep_mono (bigSep_mono fun j _ => h j) (bigSep_mono fun j _ => h j)

/-- The landing buffer of device `c` holds the totals of the earlier devices in their slots. -/
def Landed (c : Dev nD) (g : Buf (Elt F) (rcvM.view.loc (c : Thread nD τ))) : Prop :=
  ∀ j : Dev nD, j < c → (slot j).view.read (Elt F) g = totV m j

/-- The slots received and the device's own remaining slots make up the landing buffer. -/
theorem slots_join (c : Dev nD) :
    iprop(bigSep (before c) (fun j => slotTot m c j) ∗ bigSep (Finset.univ \ before c) (fun j => slotAny (F := F) c j))
      ⊢ iprop(∃ g, ⌜Landed m c g⌝ ∗ held c rcvM g) := by
  let Ψ : Dev nD → sProp 𝕄 := fun j => iprop(∃ f, ⌜j < c → (slot j).view.read (Elt F) f = totV m j⌝ ∗ slotAt c j f)
  have h1 : ∀ j ∈ before c, slotTot m c j ⊢ Ψ j := fun j _ => by
    unfold slotTot
    iintro ⟨%f, %hf, H⟩
    iexists f
    isplitr; · ipureintro; exact fun _ => hf
    iexact H
  have h2 : ∀ j ∈ Finset.univ \ before c, slotAny (F := F) c j ⊢ Ψ j := fun j hj => by
    unfold slotAny
    iintro ⟨%f, H⟩
    iexists f
    isplitr
    · ipureintro
      exact fun h => absurd (Finset.mem_filter.mpr ⟨Finset.mem_univ j, h⟩) (Finset.mem_sdiff.mp hj).2
    iexact H
  have h3 : iprop(bigSep (before c) (fun j => slotTot m c j) ∗ bigSep (Finset.univ \ before c) (fun j => slotAny (F := F) c j)) ⊢ bigSep Finset.univ Ψ := by
    rw [bigSep_sdiff_split (Finset.subset_univ (before c))]
    exact BI.sep_mono (bigSep_mono h1) (bigSep_mono h2)
  refine h3.trans ((bigSep_exists_pi Finset.univ (fun (j : Dev nD) (f : Buf (Elt F) (rcvM.view.loc (c : Thread nD τ))) =>
    iprop(⌜j < c → (slot j).view.read (Elt F) f = totV m j⌝ ∗ slotAt c j f))).trans ?_)
  iintro ⟨%fs, H⟩
  ihave ⟨%hfs, H⟩ := (bigSep_pure_sep Finset.univ (fun j : Dev nD => j < c → (slot j).view.read (Elt F) (fs j) = totV m j) (fun j => slotAt c j (fs j))) $$ H
  ihave ⟨%g, %hg, H⟩ := (pointsTo_biUnion_join (ℓ := rcvM.view.loc (c : Thread nD τ)) (q := fullShare) Finset.univ (slotSet c) fs (fs 0) fun j _ k _ h => slots_disjoint j k h) $$ [H]
  · unfold slotAt; iexact H
  iexists g
  isplitr
  · ipureintro
    intro j hj
    rw [← hfs j (Finset.mem_univ _) hj]
    exact View.read_congr fun i hi => hg j (Finset.mem_univ _) i hi
  · unfold held
    rw [slots_cover c]
    iexact H

/-- What device `c` is left with from the receives. -/
abbrev RcvEnd (c : Dev nD) : sProp 𝕄 :=
  iprop((∃ W, owes (c : Thread nD τ) 0 W) ∗ bigSep (before c) (fun j => (atPos ER (recvCell c j) 1 ∅ 0 : sProp 𝕄)))

/-- After the receives: the rows received, and nothing owed. -/
theorem rcv_end (c : Dev nD) :
    RcvSt m c c.val c.val ⊢ iprop(RcvEnd (F := F) c ∗ bigSep (before c) (fun j => slotTot m c j)) := by
  unfold RcvSt
  rw [lowFrom_end, lowUpto_end]
  iintro ⟨HO, -, H, -⟩
  ihave ⟨Ha, Hs⟩ := (unpair (before c) (fun j => (atPos ER (recvCell c j) 1 ∅ 0 : sProp 𝕄)) (fun j => slotTot m c j)) $$ H
  isplitr [Hs]
  · isplitl [HO]
    · unfold ackDebt; rw [Finset.sum_empty]; iexact HO
    iexact Ha
  iexact Hs

/-- Slot `j` as a load reads it. -/
abbrev rowAt (c : Dev nD) (g : Buf (Elt F) (rcvM.view.loc (c : Thread nD τ))) (j : ℕ) (h : ∀ a, (![j, 0, 0] : Fin 3 → Nat) a + S1x1x1024.size a ≤ S8x1x1024.size a) :
    FVec F S1x1x1024 .f32 := View.readAt (Elt F) rcvM.view (Rect.unit (s := S8x1x1024) ![j, 0, 0] S1x1x1024.size h).toLoadRect g

set_option maxHeartbeats 4000000 in
/-- The second block's running sums are kept; then the receives. -/
theorem receives19 (c : Dev nD) (f1 : Buf (Elt F) (pvM.view.loc (c : Thread nD τ))) (v2 : BitVec 32) (v193 : FVec F S256x1024 .f32)
    {Φ : (Σ' (_ : FVec F S1x1024 .f32), FVec F S1x1024 .f32) → sProp 𝕄} :
    iprop(recs m K ∗ levAts L lv ∗ RcvSt m c 0 0 ∗ held c pvM f1 ∗ bigSep (Finset.univ \ before c) (fun j => slotAny (F := F) c j))
      ⊢ iprop((∀ g, ⌜Landed m c g⌝ -∗ (RcvEnd (F := F) c ∗ held c rcvM g
            ∗ held c pvM (pvM.view.writes (Elt F) f1 [⟨Rect.unit ![256, 0] S256x1024.size inb_S512x1024_S256x1024_256_0, k0_pay5 v193⟩]))
            -∗ Φ ⟨k0_pay6 (F := F), k0_pay7 v2 (rowAt c g 0 inb_S8x1x1024_S1x1x1024_0_0_0)⟩)
        -∗ wp frame (wpE (defs₀ (F := F)) 𝒱₀ (c : Thread nD τ) none) Set.univ (onArgs (k0_part19 (F := F)) c v2 v193) Φ) := by
  unfold onArgs
  rw [k0_part19_eq_skeleton]
  unfold k0_part19_skel
  iintro ⟨#HR, #Hlev, HS, H1, Hown⟩ Hk
  sl_exec
  ihave HS : RcvAt m K c 1 $$ [HS]
  · have e : (if c.val < 1 then c.val else 0) = 0 := by split <;> omega
    unfold RcvAt
    rw [e]
    isplitr; · iexact HR
    isplitr <;> iassumption
  iapply (if_step c (P := RcvAt m K c 1) (P' := RcvAt m K c 2)
    (fun h => rcvAt_next m K c 1 fun e => h (((by decide +kernel : ∀ c : Dev nD, k0_cond37 c = 1#1 ↔ c = 1) c).2 (Fin.ext e)))) $$ [HS]
  · isplitl [HS]; · iexact HS
    iintro %h
    have hc : c = 1 := ((by decide +kernel : ∀ c : Dev nD, k0_cond37 c = 1#1 ↔ c = 1) c).1 h
    have e1 : (if c.val < 1 then c.val else 0) = 0 := by subst hc; decide
    have e2 : (if c.val < 1 + 1 then c.val else 0) = 1 := by subst hc; decide
    unfold RcvAt
    rw [e1, e2]
    iintro ⟨-, -, HS⟩ Hk
    iapply (rcv_pair m K c 0 0 (by subst hc; decide) rfl _ rfl _ (Fin.ext k0_dev37_eq)) $$ [HS]
    · isplitr; · iexact HR
      isplitr <;> iassumption
    iintro HS
    iapply Hk
    isplitr; · iexact HR
    isplitr <;> iassumption
  iintro HS
  iapply (if_step c (P := RcvAt m K c 2) (P' := RcvAt m K c 3)
    (fun h => rcvAt_next m K c 2 fun e => h (((by decide +kernel : ∀ c : Dev nD, k0_cond38 c = 1#1 ↔ c = 2) c).2 (Fin.ext e)))) $$ [HS]
  · isplitl [HS]; · iexact HS
    iintro %h
    have hc : c = 2 := ((by decide +kernel : ∀ c : Dev nD, k0_cond38 c = 1#1 ↔ c = 2) c).1 h
    have e1 : (if c.val < 2 then c.val else 0) = 0 := by subst hc; decide
    have e2 : (if c.val < 2 + 1 then c.val else 0) = 2 := by subst hc; decide
    unfold RcvAt
    rw [e1, e2]
    iintro ⟨-, -, HS⟩ Hk
    iapply (rcv_pair m K c 0 0 (by subst hc; decide) rfl _ rfl _ (Fin.ext k0_dev38_eq)) $$ [HS]
    · isplitr; · iexact HR
      isplitr <;> iassumption
    iintro HS
    iapply (rcv_pair m K c 1 1 (by subst hc; decide) rfl _ rfl _ (Fin.ext k0_dev39_eq)) $$ [HS]
    · isplitr; · iexact HR
      isplitr <;> iassumption
    iintro HS
    iapply Hk
    isplitr; · iexact HR
    isplitr <;> iassumption
  iintro HS
  iapply (if_step c (P := RcvAt m K c 3) (P' := RcvAt m K c 4)
    (fun h => rcvAt_next m K c 3 fun e => h (((by decide +kernel : ∀ c : Dev nD, k0_cond39 c = 1#1 ↔ c = 3) c).2 (Fin.ext e)))) $$ [HS]
  · isplitl [HS]; · iexact HS
    iintro %h
    have hc : c = 3 := ((by decide +kernel : ∀ c : Dev nD, k0_cond39 c = 1#1 ↔ c = 3) c).1 h
    have e1 : (if c.val < 3 then c.val else 0) = 0 := by subst hc; decide
    have e2 : (if c.val < 3 + 1 then c.val else 0) = 3 := by subst hc; decide
    unfold RcvAt
    rw [e1, e2]
    iintro ⟨-, -, HS⟩ Hk
    iapply (receives1 m K c hc h) $$ [HS]
    · isplitr; · iexact HR
      isplitr <;> iassumption
    iintro HS
    iapply (ack_step m K c 2 3 2 (by subst hc; decide) rfl _ (Fin.ext k0_dev42_eq)) $$ [HS]
    · isplitr <;> iassumption
    iintro HS
    iapply Hk
    isplitr; · iexact HR
    isplitr <;> iassumption
  iintro HS
  iapply (if_step c (P := RcvAt m K c 4) (P' := RcvAt m K c 5)
    (fun h => rcvAt_next m K c 4 fun e => h (((by decide +kernel : ∀ c : Dev nD, k0_cond40 c = 1#1 ↔ c = 4) c).2 (Fin.ext e)))) $$ [HS]
  · isplitl [HS]; · iexact HS
    iintro %h
    have hc : c = 4 := ((by decide +kernel : ∀ c : Dev nD, k0_cond40 c = 1#1 ↔ c = 4) c).1 h
    have e1 : (if c.val < 4 then c.val else 0) = 0 := by subst hc; decide
    have e2 : (if c.val < 4 + 1 then c.val else 0) = 4 := by subst hc; decide
    unfold RcvAt
    rw [e1, e2]
    iintro ⟨-, -, HS⟩ Hk
    iapply (receives2 m K c hc h) $$ [HS]
    · isplitr; · iexact HR
      isplitr <;> iassumption
    iintro HS
    iapply (ack_step m K c 2 3 2 (by subst hc; decide) rfl _ (Fin.ext k0_dev45_eq)) $$ [HS]
    · isplitr <;> iassumption
    iintro HS
    iapply (rcv_pair m K c 3 3 (by subst hc; decide) rfl _ rfl _ (Fin.ext k0_dev46_eq)) $$ [HS]
    · isplitr; · iexact HR
      isplitr <;> iassumption
    iintro HS
    iapply Hk
    isplitr; · iexact HR
    isplitr <;> iassumption
  iintro HS
  iapply (if_step c (P := RcvAt m K c 5) (P' := RcvAt m K c 6)
    (fun h => rcvAt_next m K c 5 fun e => h (((by decide +kernel : ∀ c : Dev nD, k0_cond41 c = 1#1 ↔ c = 5) c).2 (Fin.ext e)))) $$ [HS]
  · isplitl [HS]; · iexact HS
    iintro %h
    have hc : c = 5 := ((by decide +kernel : ∀ c : Dev nD, k0_cond41 c = 1#1 ↔ c = 5) c).1 h
    have e1 : (if c.val < 5 then c.val else 0) = 0 := by subst hc; decide
    have e2 : (if c.val < 5 + 1 then c.val else 0) = 5 := by subst hc; decide
    unfold RcvAt
    rw [e1, e2]
    iintro ⟨-, -, HS⟩ Hk
    iapply (receives3 m K c hc h) $$ [HS]
    · isplitr; · iexact HR
      isplitr <;> iassumption
    iintro HS
    iapply (ack_step m K c 2 3 2 (by subst hc; decide) rfl _ (Fin.ext k0_dev49_eq)) $$ [HS]
    · isplitr <;> iassumption
    iintro HS
    iapply (rcv_pair m K c 3 3 (by subst hc; decide) rfl _ rfl _ (Fin.ext k0_dev50_eq)) $$ [HS]
    · isplitr; · iexact HR
      isplitr <;> iassumption
    iintro HS
    iapply (rcv_pair m K c 4 4 (by subst hc; decide) rfl _ rfl _ (Fin.ext k0_dev51_eq)) $$ [HS]
    · isplitr; · iexact HR
      isplitr <;> iassumption
    iintro HS
    iapply Hk
    isplitr; · iexact HR
    isplitr <;> iassumption
  iintro HS
  iapply (if_step c (P := RcvAt m K c 6) (P' := RcvAt m K c 7)
    (fun h => rcvAt_next m K c 6 fun e => h (((by decide +kernel : ∀ c : Dev nD, k0_cond42 c = 1#1 ↔ c = 6) c).2 (Fin.ext e)))) $$ [HS]
  · isplitl [HS]; · iexact HS
    iintro %h
    have hc : c = 6 := ((by decide +kernel : ∀ c : Dev nD, k0_cond42 c = 1#1 ↔ c = 6) c).1 h
    have e1 : (if c.val < 6 then c.val else 0) = 0 := by subst hc; decide
    have e2 : (if c.val < 6 + 1 then c.val else 0) = 6 := by subst hc; decide
    unfold RcvAt
    rw [e1, e2]
    iintro ⟨-, -, HS⟩ Hk
    iapply (receives4 m K c hc h) $$ [HS]
    · isplitr; · iexact HR
      isplitr <;> iassumption
    iintro HS
    iapply (receives5 m K c hc h) $$ [HS]
    · isplitr; · iexact HR
      isplitr <;> iassumption
    iintro HS
    iapply (rcv_pair m K c 5 5 (by subst hc; decide) rfl _ rfl _ (Fin.ext k0_dev57_eq)) $$ [HS]
    · isplitr; · iexact HR
      isplitr <;> iassumption
    iintro HS
    iapply Hk
    isplitr; · iexact HR
    isplitr <;> iassumption
  iintro HS
  iapply (if_step c (P := RcvAt m K c 7) (P' := RcvAt m K c 8)
    (fun h => rcvAt_next m K c 7 fun e => h (((by decide +kernel : ∀ c : Dev nD, k0_cond43 c = 1#1 ↔ c = 7) c).2 (Fin.ext e)))) $$ [HS]
  · isplitl [HS]; · iexact HS
    iintro %h
    have hc : c = 7 := ((by decide +kernel : ∀ c : Dev nD, k0_cond43 c = 1#1 ↔ c = 7) c).1 h
    have e1 : (if c.val < 7 then c.val else 0) = 0 := by subst hc; decide
    have e2 : (if c.val < 7 + 1 then c.val else 0) = 7 := by subst hc; decide
    unfold RcvAt
    rw [e1, e2]
    iintro ⟨-, -, HS⟩ Hk
    iapply (receives6 m K c hc h) $$ [HS]
    · isplitr; · iexact HR
      isplitr <;> iassumption
    iintro HS
    iapply (receives7 m K c hc h) $$ [HS]
    · isplitr; · iexact HR
      isplitr <;> iassumption
    iintro HS
    iapply (rcv_pair m K c 5 5 (by subst hc; decide) rfl _ rfl _ (Fin.ext k0_dev63_eq)) $$ [HS]
    · isplitr; · iexact HR
      isplitr <;> iassumption
    iintro HS
    iapply (rcv_pair m K c 6 6 (by subst hc; decide) rfl _ rfl _ (Fin.ext k0_dev64_eq)) $$ [HS]
    · isplitr; · iexact HR
      isplitr <;> iassumption
    iintro HS
    iapply Hk
    isplitr; · iexact HR
    isplitr <;> iassumption
  iintro HS
  ihave HS : RcvSt m c c.val c.val $$ [HS]
  · have e : (if c.val < 8 then c.val else 0) = c.val := if_pos c.isLt
    unfold RcvAt
    rw [e]
    icases HS with ⟨-, -, HS⟩
    iexact HS
  ihave ⟨HE, Hsl⟩ := (rcv_end m c) $$ HS
  ihave ⟨%g, %hg, H4⟩ := (slots_join m c) $$ [Hsl Hown]
  · isplitl [Hsl] <;> iassumption
  dsimp only
  sl_exec
  rw [wp_ret]
  imodintro
  iapply Hk $$ %g
  · ipureintro; exact hg
  isplitl [HE]; · iexact HE
  isplitl [H4]; · iexact H4
  iexact H1

end Cert.KernelIdeal.Scan
-- ==== Proof.KernelIdealEnds.lean ====
/-
# The waits at the end

A device waits for its own transfers and for their acknowledgements. The program asks in turn whether the device is
number 0, 1, …, 6, and under each question lists that device's waits.
-/
module

public import proofs.«01_k».proof.Proof.KernelIdealReceives
public import Idealize.ShloMosaic.Lib.VecWindow

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- Before the question whether the device is number `J`: all waited for if its number is smaller, else nothing yet. -/
abbrev EndAt (c : Dev nD) (J : ℕ) : sProp 𝕄 :=
  iprop(recs m K ∗ EndSt m c (if c.val < J then 8 else c.val + 1) (if c.val < J then 7 - c.val else 0))

/-- A device other than number `J` passes the question unchanged. -/
theorem endAt_next (c : Dev nD) (J : ℕ) (h : c.val ≠ J) : EndAt m K c J ⊢ EndAt m K c (J + 1) := by
  have e : c.val < J ↔ c.val < J + 1 := by omega
  exact Entails.of_eq (by unfold EndAt; simp only [e])

/-- Two transfers waited for. -/
theorem sendWait_pair (c k k' : Dev nD) (w : ℕ) (hk : c < k) (hw : k.val = w) (hk' : c < k') (hw' : k'.val = w + 1) (sS sS' : DmaSem sig)
    (hsS : sS = sendS k) (hsS' : sS' = sendS k')
    {src : Memref sig .tc .vmem S1x1024 .f32} {hsrc : src.view.WordExact} {hdst : totM.view.WordExact}
    {src' : Memref sig .tc .vmem S1x1024 .f32} {hsrc' : src'.view.WordExact} {hdst' : totM.view.WordExact}
    {α : Type} {Q : α → sProp 𝕄} {kk : PUnit.{1} → Prog (TpuEff nD τ sig (Elt F) Λ₀ .tc) α} :
    iprop(recs m K ∗ EndSt m c w 0)
      ⊢ iprop((EndSt m c (w + 2) 0 -∗ wp frame (wpE (defs₀ (F := F)) 𝒱₀ (c : Thread nD τ) none) Set.univ (kk ⟨⟩) Q)
        -∗ wp frame (wpE (defs₀ (F := F)) 𝒱₀ (c : Thread nD τ) none) Set.univ
            ((Prog.lift (.waitDma2 sS src totM hsrc hdst) : Prog (TpuEff nD τ sig (Elt F) Λ₀ .tc) PUnit) >>= fun _ =>
              (Prog.lift (.waitDma2 sS' src' totM hsrc' hdst') : Prog (TpuEff nD τ sig (Elt F) Λ₀ .tc) PUnit) >>= kk) Q) := by
  iintro ⟨#HR, HS⟩ Hk
  iapply (sendWait_step m K c k w 0 hk hw sS hsS) $$ [HS]
  · isplitr <;> iassumption
  iintro HS
  iapply (sendWait_step m K c k' (w + 1) 0 hk' hw' sS' hsS') $$ [HS]
  · isplitr <;> iassumption
  iexact Hk

/-- Two acknowledgements waited for. -/
theorem ackWait_pair (c : Dev nD) (a : ℕ) (ha : a + 1 < 7 - c.val)
    {α : Type} {Q : α → sProp 𝕄} {kk : PUnit.{1} → Prog (TpuEff nD τ sig (Elt F) Λ₀ .tc) α} :
    iprop(recs m K ∗ EndSt m c 8 a)
      ⊢ iprop((EndSt m c 8 (a + 2) -∗ wp frame (wpE (defs₀ (F := F)) 𝒱₀ (c : Thread nD τ) none) Set.univ (kk ⟨⟩) Q)
        -∗ wp frame (wpE (defs₀ (F := F)) 𝒱₀ (c : Thread nD τ) none) Set.univ
            ((semWaitWord ackS 1#32 : Prog (TpuEff nD τ sig (Elt F) Λ₀ .tc) PUnit) >>= fun _ =>
              (semWaitWord ackS 1#32 : Prog (TpuEff nD τ sig (Elt F) Λ₀ .tc) PUnit) >>= kk) Q) := by
  iintro ⟨#HR, HS⟩ Hk
  iapply (ackWait_step m K c 8 a (Nat.lt_of_succ_lt ha)) $$ [HS]
  · isplitr <;> iassumption
  iintro HS
  iapply (ackWait_step m K c 8 (a + 1) ha) $$ [HS]
  · isplitr <;> iassumption
  iexact Hk

/-- The waits of device 0 for its first five transfers. -/
theorem ends8 (c : Dev nD) (hc : c = 0) {α : Type} {Q : α → sProp 𝕄}
    {kk : PUnit.{1} → Prog (TpuEff nD τ sig (Elt F) Λ₀ .tc) α} :
    iprop(recs m K ∗ EndSt m c 1 0) ⊢ iprop((EndSt m c 6 0 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part8 (F := F)) >>= kk) Q) := by
  rw [wp_bind]
  unfold onArgs
  rw [k0_part8_eq_skeleton]
  unfold k0_part8_skel
  iintro ⟨#HR, HS⟩ Hk
  iapply (sendWait_pair m K c 1 2 1 (by subst hc; decide) rfl (by subst hc; decide) rfl _ _ rfl rfl) $$ [HS]
  · isplitr <;> iassumption
  iintro HS
  iapply (sendWait_pair m K c 3 4 3 (by subst hc; decide) rfl (by subst hc; decide) rfl _ _ rfl rfl) $$ [HS]
  · isplitr <;> iassumption
  iintro HS
  iapply (sendWait_step m K c 5 5 0 (by subst hc; decide) rfl _ rfl) $$ [HS]
  · isplitr <;> iassumption
  iintro HS
  rw [Prog.pure_eq_ret, wp_ret]
  imodintro
  iapply Hk; iexact HS

/-- The waits of device 1 for its first five transfers. -/
theorem ends9 (c : Dev nD) (hc : c = 1) {α : Type} {Q : α → sProp 𝕄}
    {kk : PUnit.{1} → Prog (TpuEff nD τ sig (Elt F) Λ₀ .tc) α} :
    iprop(recs m K ∗ EndSt m c 2 0) ⊢ iprop((EndSt m c 7 0 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part9 (F := F)) >>= kk) Q) := by
  rw [wp_bind]
  unfold onArgs
  rw [k0_part9_eq_skeleton]
  unfold k0_part9_skel
  iintro ⟨#HR, HS⟩ Hk
  iapply (sendWait_pair m K c 2 3 2 (by subst hc; decide) rfl (by subst hc; decide) rfl _ _ rfl rfl) $$ [HS]
  · isplitr <;> iassumption
  iintro HS
  iapply (sendWait_pair m K c 4 5 4 (by subst hc; decide) rfl (by subst hc; decide) rfl _ _ rfl rfl) $$ [HS]
  · isplitr <;> iassumption
  iintro HS
  iapply (sendWait_step m K c 6 6 0 (by subst hc; decide) rfl _ rfl) $$ [HS]
  · isplitr <;> iassumption
  iintro HS
  rw [Prog.pure_eq_ret, wp_ret]
  imodintro
  iapply Hk; iexact HS

/-- The waits of device 2 for its transfers. -/
theorem ends10 (c : Dev nD) (hc : c = 2) {α : Type} {Q : α → sProp 𝕄}
    {kk : PUnit.{1} → Prog (TpuEff nD τ sig (Elt F) Λ₀ .tc) α} :
    iprop(recs m K ∗ EndSt m c 3 0) ⊢ iprop((EndSt m c 8 0 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part10 (F := F)) >>= kk) Q) := by
  rw [wp_bind]
  unfold onArgs
  rw [k0_part10_eq_skeleton]
  unfold k0_part10_skel
  iintro ⟨#HR, HS⟩ Hk
  iapply (sendWait_pair m K c 3 4 3 (by subst hc; decide) rfl (by subst hc; decide) rfl _ _ rfl rfl) $$ [HS]
  · isplitr <;> iassumption
  iintro HS
  iapply (sendWait_pair m K c 5 6 5 (by subst hc; decide) rfl (by subst hc; decide) rfl _ _ rfl rfl) $$ [HS]
  · isplitr <;> iassumption
  iintro HS
  iapply (sendWait_step m K c 7 7 0 (by subst hc; decide) rfl _ rfl) $$ [HS]
  · isplitr <;> iassumption
  iintro HS
  rw [Prog.pure_eq_ret, wp_ret]
  imodintro
  iapply Hk; iexact HS

/-- The waits of device 3. -/
theorem ends11 (c : Dev nD) (hc : c = 3) {α : Type} {Q : α → sProp 𝕄}
    {kk : PUnit.{1} → Prog (TpuEff nD τ sig (Elt F) Λ₀ .tc) α} :
    iprop(recs m K ∗ EndSt m c 4 0) ⊢ iprop((EndSt m c 8 4 -∗ wp frame (wpE (defs₀ (F := F)) 𝒱₀ (c : Thread nD τ) none) Set.univ (kk ⟨⟩) Q)
      -∗ wp frame (wpE (defs₀ (F := F)) 𝒱₀ (c : Thread nD τ) none) Set.univ (onArgs (k0_part11 (F := F)) >>= kk) Q) := by
  rw [wp_bind]
  unfold onArgs
  rw [k0_part11_eq_skeleton]
  unfold k0_part11_skel
  iintro ⟨#HR, HS⟩ Hk
  iapply (sendWait_pair m K c 4 5 4 (by subst hc; decide) rfl (by subst hc; decide) rfl _ _ rfl rfl) $$ [HS]
  · isplitr <;> iassumption
  iintro HS
  iapply (sendWait_pair m K c 6 7 6 (by subst hc; decide) rfl (by subst hc; decide) rfl _ _ rfl rfl) $$ [HS]
  · isplitr <;> iassumption
  iintro HS
  iapply (ackWait_pair m K c 0 (by subst hc; decide)) $$ [HS]
  · isplitr <;> iassumption
  iintro HS
  iapply (ackWait_pair m K c 2 (by subst hc; decide)) $$ [HS]
  · isplitr <;> iassumption
  iintro HS
  rw [Prog.pure_eq_ret, wp_ret]
  imodintro
  iapply Hk; iexact HS

end Cert.KernelIdeal.Scan
-- ==== Proof.KernelIdealFirst.lean ====
/-
# The last sends, and the first block's rows
-/
module

public import proofs.«01_k».proof.Proof.KernelIdealSends
public import Idealize.ShloMosaic.Lib.VecWindow

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The 256 rows of `X` from row `r` on. -/
abbrev rowsOf (X : FVec F S2048x1024 .f32) (r : ℕ) (h : ∀ a, (![r, 0] : Fin 2 → Nat) a + S256x1024.size a ≤ S2048x1024.size a) : FVec F S256x1024 .f32 :=
  View.readAt (Elt F) xvM.view (Rect.unit (s := S2048x1024) ![r, 0] S256x1024.size h).toLoadRect X

/-- The pairs numbered 21 to 27; then the first block's running sums are kept. -/
theorem sends18 (c : Dev nD) (f1 : Buf (Elt F) (pvM.view.loc (c : Thread nD τ))) (v2 w : BitVec 32)
    {Φ : (Σ' (_ : FVec F S256x256 .f32), FVec F S256x1024 .f32) → sProp 𝕄} :
    iprop(recs m K ∗ SndSt m c 21 ∗ held c xvM (xb m c) ∗ held c pvM f1)
      ⊢ iprop((SndSt m c 28 ∗ held c xvM (xb m c)
            ∗ held c pvM (pvM.view.writes (Elt F) f1 [⟨Rect.unit ![0, 0] S256x1024.size inb_S512x1024_S256x1024_0_0,
                k0_pay3 (rowsOf (xb m c) 0 inb_S2048x1024_S256x1024_0_0)⟩])
            -∗ Φ ⟨k0_pay2 (F := F), k0_pay4 (rowsOf (xb m c) 256 inb_S2048x1024_S256x1024_256_0)⟩)
        -∗ wp frame (wpE (defs₀ (F := F)) 𝒱₀ (c : Thread nD τ) none) Set.univ (onArgs (k0_part18 (F := F)) c v2 w) Φ) := by
  unfold onArgs
  rw [k0_part18_eq_skeleton]
  unfold k0_part18_skel
  iintro ⟨#HR, HS, H0, H1⟩ Hk
  iapply (send_step m K c 3 7 21 (by decide) (by decide) _ ((by decide +kernel : ∀ c : Dev nD, k0_cond30 c = 1#1 ↔ c = 3) c) _ (fun _ => Fin.ext k0_dev30_eq) _ _ rfl rfl) $$ [HS]
  · isplitr <;> iassumption
  iintro HS
  iapply (send_step m K c 4 5 22 (by decide) (by decide) _ ((by decide +kernel : ∀ c : Dev nD, k0_cond31 c = 1#1 ↔ c = 4) c) _ (fun _ => Fin.ext k0_dev31_eq) _ _ rfl rfl) $$ [HS]
  · isplitr <;> iassumption
  iintro HS
  iapply (send_step m K c 4 6 23 (by decide) (by decide) _ ((by decide +kernel : ∀ c : Dev nD, k0_cond32 c = 1#1 ↔ c = 4) c) _ (fun _ => Fin.ext k0_dev32_eq) _ _ rfl rfl) $$ [HS]
  · isplitr <;> iassumption
  iintro HS
  iapply (send_step m K c 4 7 24 (by decide) (by decide) _ ((by decide +kernel : ∀ c : Dev nD, k0_cond33 c = 1#1 ↔ c = 4) c) _ (fun _ => Fin.ext k0_dev33_eq) _ _ rfl rfl) $$ [HS]
  · isplitr <;> iassumption
  iintro HS
  iapply (send_step m K c 5 6 25 (by decide) (by decide) _ ((by decide +kernel : ∀ c : Dev nD, k0_cond34 c = 1#1 ↔ c = 5) c) _ (fun _ => Fin.ext k0_dev34_eq) _ _ rfl rfl) $$ [HS]
  · isplitr <;> iassumption
  iintro HS
  iapply (send_step m K c 5 7 26 (by decide) (by decide) _ ((by decide +kernel : ∀ c : Dev nD, k0_cond35 c = 1#1 ↔ c = 5) c) _ (fun _ => Fin.ext k0_dev35_eq) _ _ rfl rfl) $$ [HS]
  · isplitr <;> iassumption
  iintro HS
  iapply (send_step m K c 6 7 27 (by decide) (by decide) _ ((by decide +kernel : ∀ c : Dev nD, k0_cond36 c = 1#1 ↔ c = 6) c) _ (fun _ => Fin.ext k0_dev36_eq) _ _ rfl rfl) $$ [HS]
  · isplitr <;> iassumption
  iintro HS
  sl_exec
  rw [wp_ret]
  imodintro
  iapply Hk
  isplitl [HS]; · iexact HS
  isplitl [H0]; · iexact H0
  iexact H1

end Cert.KernelIdeal.Scan
-- ==== Proof.KernelIdealOutputs.lean ====
/-
# The blocks of the result, written out one after another

The result leaves in eight blocks of 256 rows, through a buffer of two slots. A block is the running sums inside it
plus a carried row: for the first block the totals of the earlier devices, for a later one the last row of the block
before it.
-/
module

public import proofs.«01_k».proof.Proof.KernelIdealLanding
public import proofs.«01_k».proof.Proof.KernelIdealEnds
public import proofs.«01_k».proof.Proof.KernelIdealFirst
public import Idealize.ShloMosaic.Lib.VecWindow

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The first of the two slots of the buffer the result's blocks leave from. -/
abbrev ovA : Memref sig .tc .vmem S256x1024 .f32 :=
  (ovM.slice (Rect.unit (s := S2x256x1024) ![0, 0, 0] S1x256x1024.size inb_S2x256x1024_S1x256x1024_0_0_0) (fun _ => rfl)).squeeze S256x1024 squeezes_S1x256x1024_S256x1024
/-- The second of the two slots. -/
abbrev ovB : Memref sig .tc .vmem S256x1024 .f32 :=
  (ovM.slice (Rect.unit (s := S2x256x1024) ![1, 0, 0] S1x256x1024.size inb_S2x256x1024_S1x256x1024_1_0_0) (fun _ => rfl)).squeeze S256x1024 squeezes_S1x256x1024_S256x1024

/-- A slot of that buffer, held. -/
abbrev ovHeld (c : Dev nD) (M : Memref sig .tc .vmem S256x1024 .f32) (f : Buf (Elt F) (M.view.loc (c : Thread nD τ))) : sProp 𝕄 :=
  M.view.loc (c : Thread nD τ) ↦[M.view.set]{fullShare} f

/-- The semaphores of the copies out, at zero. -/
abbrev outZero (c : Dev nD) : sProp 𝕄 :=
  iprop(zero c (.dma ⟨8, by decide⟩) ∗ zero c (.dma ⟨9, by decide⟩))

/-! ## What the blocks hold -/

/-- A block without its leading axis. -/
abbrev sq (o : FVec F S1x256x1024 .f32) : FVec F S256x1024 .f32 := shapeCast S256x1024 o squeezes_S1x256x1024_S256x1024.numel_eq

/-- A block's last row lies in it. -/
theorem last_inb : ∀ a, (![0, 255, 0] : Fin 3 → ℕ) a + S1x1x1024.size a ≤ S1x256x1024.size a := by decide
/-- A block's last row. -/
def lastRow (o : FVec F S1x256x1024 .f32) : FVec F S1x1x1024 .f32 :=
  fun y => o ((Rect.unit (s := S1x256x1024) ![0, 255, 0] S1x1x1024.size last_inb).emb y)

/-- The rows of block `b` lie among the device's rows. -/
theorem rows_inb (b : Fin 8) : ∀ a, (![256 * b.val, 0] : Fin 2 → ℕ) a + S256x1024.size a ≤ S2048x1024.size a := by
  revert b; decide
/-- The rows of block `b`. -/
abbrev rowsB {c : Dev nD} (X : Buf (Elt F) (xvM.view.loc (c : Thread nD τ))) (b : Fin 8) : FVec F S256x1024 .f32 :=
  View.readAt (Elt F) xvM.view (Rect.unit (s := S2048x1024) ![256 * b.val, 0] S256x1024.size (rows_inb b)).toLoadRect X

/-- The blocks: from the first one, the second's running sums, the triangle and the rows. -/
def blk {c : Dev nD} (base : FVec F S1x256x1024 .f32) (P1 : FVec F S256x1024 .f32) (T : FVec F S256x256 .f32)
    (X : Buf (Elt F) (xvM.view.loc (c : Thread nD τ))) : ℕ → FVec F S1x256x1024 .f32
  | 0 => base
  | 1 => k0_pay10 (lastRow base) P1
  | n + 2 => k0_pay11 T (lastRow (blk base P1 T X (n + 1))) (rowsB X (Fin.ofNat 8 (n + 2)))

/-- The result put together from its blocks. -/
def outV (B : Fin 8 → FVec F S256x1024 .f32) : Vec F S2048x1024 .f32 :=
  fun i => B ⟨(i 0).val / 256, by have h : (i 0).val < 2048 := (i 0).isLt; omega⟩
    (fun | ⟨0, _⟩ => ⟨(i 0).val % 256, Nat.mod_lt _ (by decide)⟩ | ⟨1, _⟩ => ⟨(i 1).val, (i 1).isLt⟩)

/-- The result at the rows of block `b` is that block. -/
theorem outV_at (B : Fin 8 → FVec F S256x1024 .f32) (b : Fin 8) (r : ℕ) (hr : r = 256 * b.val)
    (inb : ∀ a, (![r, 0] : Fin 2 → ℕ) a + S256x1024.size a ≤ S2048x1024.size a) (x : S256x1024.Idx) :
    outV B ((Rect.unit (s := S2048x1024) ![r, 0] S256x1024.size inb).emb x) = B b x := by
  subst hr
  have h0 : (((Rect.unit (s := S2048x1024) ![256 * b.val, 0] S256x1024.size inb).emb x) 0).val = 256 * b.val + 1 * (x 0).val := rfl
  have h1 : (((Rect.unit (s := S2048x1024) ![256 * b.val, 0] S256x1024.size inb).emb x) 1).val = 0 + 1 * (x 1).val := rfl
  have hx : (x 0).val < 256 := (x 0).isLt
  unfold outV
  congr 1
  · congr 1
    rw [h0]; omega
  · funext a
    match a with
    | ⟨0, _⟩ => apply Fin.ext; show _ % 256 = (x 0).val; rw [h0]; omega
    | ⟨1, _⟩ => apply Fin.ext; show _ = (x 1).val; rw [h1]; omega

/-- The result's buffer once its blocks are written. -/
theorem out_filled (c : Dev nD) (f : Buf (Elt F) (oM.view.loc (c : Thread nD τ))) (B : Fin 8 → FVec F S256x1024 .f32)
    (L : List (View.Piece (Elt F) S2048x1024 .f32))
    (hG : ∀ p ∈ L, ∀ x : p.1.shape.Idx, p.2 x = outV B (p.1.emb x)) (hT : View.Piece.tiled L ![256, 1024] = true) :
    oM.view.writes (Elt F) f L = outV B := by
  funext y
  exact View.read_writes_apply_of_pieces oM.view f (outV B) L hG y (View.cover_of_tiled L _ hT y)

/-- The first slot as the rectangle a store names, -/
abbrev rectA : Rect S2x256x1024 := Rect.unit ![0, 0, 0] S1x256x1024.size inb_S2x256x1024_S1x256x1024_0_0_0
/-- and the second. -/
abbrev rectB : Rect S2x256x1024 := Rect.unit ![1, 0, 0] S1x256x1024.size inb_S2x256x1024_S1x256x1024_1_0_0

/-- A slot read once a block is stored there: the block; -/
theorem readA (f : (ovM.access rectA).ty.Contents (Elt F)) (o : FVec F S1x256x1024 .f32) :
    View.read (Elt F) ovA.view (View.write (Elt F) (ovM.access rectA) f o Finset.univ) = sq o := by
  have h := View.read_write_univ (v := ovM.access rectA) (Val := Elt F) f o
  exact congrArg sq h
/-- The same of the second slot. -/
theorem readB (f : (ovM.access rectB).ty.Contents (Elt F)) (o : FVec F S1x256x1024 .f32) :
    View.read (Elt F) ovB.view (View.write (Elt F) (ovM.access rectB) f o Finset.univ) = sq o := by
  have h := View.read_write_univ (v := ovM.access rectB) (Val := Elt F) f o
  exact congrArg sq h

/-- Its last row: the block's. -/
theorem lastA (f : (ovM.access rectA).ty.Contents (Elt F)) (o : FVec F S1x256x1024 .f32) :
    View.readAt (Elt F) ovM.view (Rect.unit (s := S2x256x1024) ![0, 255, 0] S1x1x1024.size inb_S2x256x1024_S1x1x1024_0_255_0).toLoadRect
      (View.write (Elt F) (ovM.access rectA) f o Finset.univ) = lastRow o := by
  funext y
  have h := congrFun (View.read_write_univ (v := ovM.access rectA) (Val := Elt F) f o)
    ((Rect.unit (s := S1x256x1024) ![0, 255, 0] S1x1x1024.size last_inb).emb y)
  refine Eq.trans ?_ h
  refine congrArg (View.write (Elt F) (ovM.access rectA) f o Finset.univ) (funext fun a => Fin.ext ?_)
  match a with
  | ⟨0, _⟩ => show 0 + 1 * (y 0).val = 0 + 1 * (0 + 1 * (y 0).val); omega
  | ⟨1, _⟩ => show 255 + 1 * (y 1).val = 0 + 1 * (255 + 1 * (y 1).val); omega
  | ⟨2, _⟩ => show 0 + 1 * (y 2).val = 0 + 1 * (0 + 1 * (y 2).val); omega
/-- The same of the second slot. -/
theorem lastB (f : (ovM.access rectB).ty.Contents (Elt F)) (o : FVec F S1x256x1024 .f32) :
    View.readAt (Elt F) ovM.view (Rect.unit (s := S2x256x1024) ![1, 255, 0] S1x1x1024.size inb_S2x256x1024_S1x1x1024_1_255_0).toLoadRect
      (View.write (Elt F) (ovM.access rectB) f o Finset.univ) = lastRow o := by
  funext y
  have h := congrFun (View.read_write_univ (v := ovM.access rectB) (Val := Elt F) f o)
    ((Rect.unit (s := S1x256x1024) ![0, 255, 0] S1x1x1024.size last_inb).emb y)
  refine Eq.trans ?_ h
  refine congrArg (View.write (Elt F) (ovM.access rectB) f o Finset.univ) (funext fun a => Fin.ext ?_)
  match a with
  | ⟨0, _⟩ => show 1 + 1 * (y 0).val = 1 + 1 * (0 + 1 * (y 0).val); omega
  | ⟨1, _⟩ => show 255 + 1 * (y 1).val = 0 + 1 * (255 + 1 * (y 1).val); omega
  | ⟨2, _⟩ => show 0 + 1 * (y 2).val = 0 + 1 * (0 + 1 * (y 2).val); omega

/-- The first half of the running sums. -/
abbrev pvA {c : Dev nD} (f1 : Buf (Elt F) (pvM.view.loc (c : Thread nD τ))) : FVec F S256x1024 .f32 :=
  View.readAt (Elt F) pvM.view (Rect.unit (s := S512x1024) ![0, 0] S256x1024.size inb_S512x1024_S256x1024_0_0).toLoadRect f1
/-- The second half of the running sums. -/
abbrev pvB {c : Dev nD} (f1 : Buf (Elt F) (pvM.view.loc (c : Thread nD τ))) : FVec F S256x1024 .f32 :=
  View.readAt (Elt F) pvM.view (Rect.unit (s := S512x1024) ![256, 0] S256x1024.size inb_S512x1024_S256x1024_256_0).toLoadRect f1

/-- The first block: its running sums and the rows received. -/
abbrev base (c : Dev nD) (g : Buf (Elt F) (rcvM.view.loc (c : Thread nD τ))) (f1 : Buf (Elt F) (pvM.view.loc (c : Thread nD τ)))
    (v2 : BitVec 32) (v218 v223 : FVec F S1x1024 .f32) : FVec F S1x256x1024 .f32 :=
  k0_pay9 (k0_pay8 v2 v218 v223 (rowAt c g 1 inb_S8x1x1024_S1x1x1024_1_0_0) (rowAt c g 2 inb_S8x1x1024_S1x1x1024_2_0_0)
      (rowAt c g 3 inb_S8x1x1024_S1x1x1024_3_0_0) (rowAt c g 4 inb_S8x1x1024_S1x1x1024_4_0_0) (rowAt c g 5 inb_S8x1x1024_S1x1x1024_5_0_0))
    (Scalar.cmpi .sgt v2 6#32) (rowAt c g 6 inb_S8x1x1024_S1x1x1024_6_0_0) (pvA f1)

/-- All the blocks. -/
abbrev blks (c : Dev nD) (g : Buf (Elt F) (rcvM.view.loc (c : Thread nD τ))) (X : Buf (Elt F) (xvM.view.loc (c : Thread nD τ)))
    (f1 : Buf (Elt F) (pvM.view.loc (c : Thread nD τ))) (v2 : BitVec 32) (v218 v223 : FVec F S1x1024 .f32) (v186 : FVec F S256x256 .f32) (b : Fin 8) :
    FVec F S256x1024 .f32 :=
  sq (blk (base c g f1 v2 v218 v223) (pvB f1) v186 X b.val)

/-! ## The phase -/

/-- The program's question whether the device is number `J`, answered. -/
theorem isNo (J : Fin 8) : ∀ c : Dev nD, (Scalar.cmpi .ne (Scalar.extui (Scalar.cmpi .eq (me c) (BitVec.ofNat 32 J.val)) : BitVec 32) 0#32 = 1#1) ↔ c.val = J.val := by
  revert J; decide +kernel

set_option maxHeartbeats 4000000 in
/-- The result's blocks stored and copied out, and the waits of devices 0, 1 and 2. -/
theorem outs (c : Dev nD) (g : Buf (Elt F) (rcvM.view.loc (c : Thread nD τ))) (X : Buf (Elt F) (xvM.view.loc (c : Thread nD τ)))
    (f1 : Buf (Elt F) (pvM.view.loc (c : Thread nD τ)))
    (fa : Buf (Elt F) (ovA.view.loc (c : Thread nD τ))) (fb : Buf (Elt F) (ovB.view.loc (c : Thread nD τ))) (fo : Buf (Elt F) (oM.view.loc (c : Thread nD τ)))
    (v2 : BitVec 32) (hv : v2 = me c) (v218 v223 : FVec F S1x1024 .f32) (v186 : FVec F S256x256 .f32)
    {Φ : PUnit → sProp 𝕄} :
    iprop(EndAt m K c 0 ∗ held c rcvM g ∗ held c xvM X ∗ held c pvM f1 ∗ ovHeld c ovA fa ∗ ovHeld c ovB fb ∗ held c oM fo ∗ outZero c)
      ⊢ iprop((EndAt m K c 3 ∗ held c rcvM g ∗ held c xvM X ∗ held c pvM f1 ∗ (∃ f, ovHeld c ovA f) ∗ (∃ f, ovHeld c ovB f)
          ∗ held c oM (outV (blks c g X f1 v2 v218 v223 v186)) ∗ outZero c -∗ Φ ⟨⟩)
        -∗ wp frame (wpE (defs₀ (F := F)) 𝒱₀ (c : Thread nD τ) none) Set.univ
            (onArgs (k0_part20 (F := F)) v2 v218 v223 >>= fun y => onArgs (k0_part21 (F := F)) y.1 y.2 >>= fun _ => onArgs (k0_part22 (F := F)) v186 >>= fun v305 =>
              onArgs (k0_part23 (F := F)) v186 v305 >>= fun _ => onArgs (k0_part24 (F := F)) v186 >>= fun v362 =>
              onArgs (k0_part25 (F := F)) v186 v362 >>= fun v390 => onArgs (k0_part26 (F := F)) v2 v390) Φ) := by
  unfold onArgs
  rw [k0_part20_eq_skeleton, k0_part21_eq_skeleton, k0_part22_eq_skeleton, k0_part23_eq_skeleton, k0_part24_eq_skeleton, k0_part25_eq_skeleton, k0_part26_eq_skeleton]
  unfold k0_part20_skel k0_part21_skel k0_part22_skel k0_part23_skel k0_part24_skel k0_part25_skel k0_part26_skel
  rw [show EndAt m K c 0 = iprop(recs m K ∗ EndSt m c (c.val + 1) 0) from rfl]
  unfold EndSt
  iintro ⟨⟨#HR, ⟨%W, HO⟩, HE⟩, H4, H0, H1, HA, HB, Ho, Hs8, Hs9⟩ Hk
  set_option sl_exec.dmaWindow true in
  set_option sl_exec.dmaWindowLent true in
  set_option sl_exec.lendShare "HA,HB" in sl_exec
  have l1 : View.readAt (Elt F) ovM.view (Rect.unit (s := S2x256x1024) ![0, 255, 0] S1x1x1024.size inb_S2x256x1024_S1x1x1024_0_255_0).toLoadRect (outs.sl.HA_w1 c g f1 fa v2 v218 v223)
      = lastRow (blk (base c g f1 v2 v218 v223) (pvB f1) v186 X 0) :=
    lastA _ _
  have l2 : View.readAt (Elt F) ovM.view (Rect.unit (s := S2x256x1024) ![1, 255, 0] S1x1x1024.size inb_S2x256x1024_S1x1x1024_1_255_0).toLoadRect (outs.sl.HB_w2 c g f1 fa fb v2 v218 v223)
      = lastRow (blk (base c g f1 v2 v218 v223) (pvB f1) v186 X 1) :=
    (lastB _ _).trans (congrArg (fun r => lastRow (k0_pay10 r (pvB f1))) l1)
  have l3 : View.readAt (Elt F) ovM.view (Rect.unit (s := S2x256x1024) ![0, 255, 0] S1x1x1024.size inb_S2x256x1024_S1x1x1024_0_255_0).toLoadRect (outs.sl.HA_w3 c g X f1 fa fb v2 v218 v223 v186)
      = lastRow (blk (base c g f1 v2 v218 v223) (pvB f1) v186 X 2) :=
    (lastA _ _).trans (congrArg (fun r => lastRow (k0_pay11 v186 r (rowsB X 2))) l2)
  have l4 : View.readAt (Elt F) ovM.view (Rect.unit (s := S2x256x1024) ![1, 255, 0] S1x1x1024.size inb_S2x256x1024_S1x1x1024_1_255_0).toLoadRect (outs.sl.HB_w4 c g X f1 fa fb v2 v218 v223 v186)
      = lastRow (blk (base c g f1 v2 v218 v223) (pvB f1) v186 X 3) :=
    (lastB _ _).trans (congrArg (fun r => lastRow (k0_pay11 v186 r (rowsB X 3))) l3)
  have l5 : View.readAt (Elt F) ovM.view (Rect.unit (s := S2x256x1024) ![0, 255, 0] S1x1x1024.size inb_S2x256x1024_S1x1x1024_0_255_0).toLoadRect (outs.sl.HA_w5 c g X f1 fa fb v2 v218 v223 v186)
      = lastRow (blk (base c g f1 v2 v218 v223) (pvB f1) v186 X 4) :=
    (lastA _ _).trans (congrArg (fun r => lastRow (k0_pay11 v186 r (rowsB X 4))) l4)
  have l6 : View.readAt (Elt F) ovM.view (Rect.unit (s := S2x256x1024) ![1, 255, 0] S1x1x1024.size inb_S2x256x1024_S1x1x1024_1_255_0).toLoadRect (outs.sl.HB_w6 c g X f1 fa fb v2 v218 v223 v186)
      = lastRow (blk (base c g f1 v2 v218 v223) (pvB f1) v186 X 5) :=
    (lastB _ _).trans (congrArg (fun r => lastRow (k0_pay11 v186 r (rowsB X 5))) l5)
  have l7 : View.readAt (Elt F) ovM.view (Rect.unit (s := S2x256x1024) ![0, 255, 0] S1x1x1024.size inb_S2x256x1024_S1x1x1024_0_255_0).toLoadRect (outs.sl.HA_w7 c g X f1 fa fb v2 v218 v223 v186)
      = lastRow (blk (base c g f1 v2 v218 v223) (pvB f1) v186 X 6) :=
    (lastA _ _).trans (congrArg (fun r => lastRow (k0_pay11 v186 r (rowsB X 6))) l6)
  rw [out_filled c fo (blks c g X f1 v2 v218 v223 v186) _ (by
    intro p hp x
    simp only [List.mem_cons, List.not_mem_nil, or_false] at hp
    rcases hp with rfl | rfl | rfl | rfl | rfl | rfl | rfl | rfl
    · exact (congrFun ((readB _ _).trans (congrArg (fun r => sq (k0_pay11 v186 r (rowsB X 7))) l7)) x).trans (outV_at (blks c g X f1 v2 v218 v223 v186) 7 1792 rfl inb_S2048x1024_S256x1024_1792_0 x).symm
    · exact (congrFun ((readA _ _).trans (congrArg (fun r => sq (k0_pay11 v186 r (rowsB X 6))) l6)) x).trans (outV_at (blks c g X f1 v2 v218 v223 v186) 6 1536 rfl inb_S2048x1024_S256x1024_1536_0 x).symm
    · exact (congrFun ((readB _ _).trans (congrArg (fun r => sq (k0_pay11 v186 r (rowsB X 5))) l5)) x).trans (outV_at (blks c g X f1 v2 v218 v223 v186) 5 1280 rfl inb_S2048x1024_S256x1024_1280_0 x).symm
    · exact (congrFun ((readA _ _).trans (congrArg (fun r => sq (k0_pay11 v186 r (rowsB X 4))) l4)) x).trans (outV_at (blks c g X f1 v2 v218 v223 v186) 4 1024 rfl inb_S2048x1024_S256x1024_1024_0 x).symm
    · exact (congrFun ((readB _ _).trans (congrArg (fun r => sq (k0_pay11 v186 r (rowsB X 3))) l3)) x).trans (outV_at (blks c g X f1 v2 v218 v223 v186) 3 768 rfl inb_S2048x1024_S256x1024_768_0 x).symm
    · exact (congrFun ((readA _ _).trans (congrArg (fun r => sq (k0_pay11 v186 r (rowsB X 2))) l2)) x).trans (outV_at (blks c g X f1 v2 v218 v223 v186) 2 512 rfl inb_S2048x1024_S256x1024_512_0 x).symm
    · exact (congrFun ((readB _ _).trans (congrArg (fun r => sq (k0_pay10 r (pvB f1))) l1)) x).trans (outV_at (blks c g X f1 v2 v218 v223 v186) 1 256 rfl inb_S2048x1024_S256x1024_256_0 x).symm
    · exact (congrFun (readA _ _) x).trans (outV_at (blks c g X f1 v2 v218 v223 v186) 0 0 rfl inb_S2048x1024_S256x1024_0_0 x).symm) rfl]
  clear l1 l2 l3 l4 l5 l6 l7
  subst hv
  ihave HS : iprop(EndSt m c (c.val + 1) 0) $$ [HO HE]
  · unfold EndSt
    isplitl [HO]; · iexists _; iexact HO
    iexact HE
  iapply (if_step c (P := EndAt m K c 0) (P' := EndAt m K c 1) (fun h => endAt_next m K c 0 fun e => h ((isNo 0 c).2 e))) $$ [HS]
  · isplitl [HS]
    · isplitr; · iexact HR
      iexact HS
    iintro %h
    have hc : c = 0 := Fin.ext ((isNo 0 c).1 h)
    iintro ⟨-, HS⟩ Hk
    rw [show (if c.val < 0 then 8 else c.val + 1) = 1 by subst hc; rfl, show (if c.val < 0 then 7 - c.val else 0) = 0 by subst hc; rfl]
    iapply (ends8 m K c hc) $$ [HS]
    · isplitr <;> iassumption
    iintro HS
    iapply (sendWait_pair m K c 6 7 6 (by subst hc; decide) rfl (by subst hc; decide) rfl _ _ rfl rfl) $$ [HS]
    · isplitr <;> iassumption
    iintro HS
    iapply (ackWait_pair m K c 0 (by subst hc; decide)) $$ [HS]
    · isplitr <;> iassumption
    iintro HS
    iapply (ackWait_pair m K c 2 (by subst hc; decide)) $$ [HS]
    · isplitr <;> iassumption
    iintro HS
    iapply (ackWait_pair m K c 4 (by subst hc; decide)) $$ [HS]
    · isplitr <;> iassumption
    iintro HS
    iapply (ackWait_step m K c 8 6 (by subst hc; decide)) $$ [HS]
    · isplitr <;> iassumption
    iintro HS
    iapply Hk
    isplitr; · iexact HR
    rw [show (if c.val < 1 then 8 else c.val + 1) = 8 by subst hc; rfl, show (if c.val < 1 then 7 - c.val else 0) = 7 by subst hc; rfl]
    iexact HS
  iintro ⟨-, HS⟩
  iapply (if_step c (P := EndAt m K c 1) (P' := EndAt m K c 2) (fun h => endAt_next m K c 1 fun e => h ((isNo 1 c).2 e))) $$ [HS]
  · isplitl [HS]
    · isplitr; · iexact HR
      iexact HS
    iintro %h
    have hc : c = 1 := Fin.ext ((isNo 1 c).1 h)
    iintro ⟨-, HS⟩ Hk
    rw [show (if c.val < 1 then 8 else c.val + 1) = 2 by subst hc; rfl, show (if c.val < 1 then 7 - c.val else 0) = 0 by subst hc; rfl]
    iapply (ends9 m K c hc) $$ [HS]
    · isplitr <;> iassumption
    iintro HS
    iapply (sendWait_step m K c 7 7 0 (by subst hc; decide) rfl _ rfl) $$ [HS]
    · isplitr <;> iassumption
    iintro HS
    iapply (ackWait_pair m K c 0 (by subst hc; decide)) $$ [HS]
    · isplitr <;> iassumption
    iintro HS
    iapply (ackWait_pair m K c 2 (by subst hc; decide)) $$ [HS]
    · isplitr <;> iassumption
    iintro HS
    iapply (ackWait_pair m K c 4 (by subst hc; decide)) $$ [HS]
    · isplitr <;> iassumption
    iintro HS
    iapply Hk
    isplitr; · iexact HR
    rw [show (if c.val < 2 then 8 else c.val + 1) = 8 by subst hc; rfl, show (if c.val < 2 then 7 - c.val else 0) = 6 by subst hc; rfl]
    iexact HS
  iintro ⟨-, HS⟩
  iapply (if_step c (P := EndAt m K c 2) (P' := EndAt m K c 3) (fun h => endAt_next m K c 2 fun e => h ((isNo 2 c).2 e))) $$ [HS]
  · isplitl [HS]
    · isplitr; · iexact HR
      iexact HS
    iintro %h
    have hc : c = 2 := Fin.ext ((isNo 2 c).1 h)
    iintro ⟨-, HS⟩ Hk
    rw [show (if c.val < 2 then 8 else c.val + 1) = 3 by subst hc; rfl, show (if c.val < 2 then 7 - c.val else 0) = 0 by subst hc; rfl]
    iapply (ends10 m K c hc) $$ [HS]
    · isplitr <;> iassumption
    iintro HS
    iapply (ackWait_pair m K c 0 (by subst hc; decide)) $$ [HS]
    · isplitr <;> iassumption
    iintro HS
    iapply (ackWait_pair m K c 2 (by subst hc; decide)) $$ [HS]
    · isplitr <;> iassumption
    iintro HS
    iapply (ackWait_step m K c 8 4 (by subst hc; decide)) $$ [HS]
    · isplitr <;> iassumption
    iintro HS
    iapply Hk
    isplitr; · iexact HR
    rw [show (if c.val < 3 then 8 else c.val + 1) = 8 by subst hc; rfl, show (if c.val < 3 then 7 - c.val else 0) = 5 by subst hc; rfl]
    iexact HS
  iintro ⟨-, HS⟩
  rw [Prog.pure_eq_ret, wp_ret]
  imodintro
  iapply Hk
  isplitl [HS]
  · isplitr; · iexact HR
    iexact HS
  isplitl [H4]; · iexact H4
  isplitl [H0]; · iexact H0
  isplitl [H1]; · iexact H1
  isplitl [HA]; · iexists _; iexact HA
  isplitl [HB]; · iexists _; iexact HB
  isplitl [Ho]; · iexact Ho
  isplitl [Hs8] <;> iassumption

end Cert.KernelIdeal.Scan
-- ==== Proof.KernelIdealBody.lean ====
/-
# One device's run of the kernel

What a device starts with, what it ends with, and its run from the one to the other: the signals, the load and the
totals, the sends, the receives, the result's blocks and the waits at the end, after which every cell is closed.
-/
module

public import proofs.«01_k».proof.Proof.KernelIdealLoad
public import proofs.«01_k».proof.Proof.KernelIdealOutputs

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

omit [FloatOps F] in
/-- A family over a device's cells, kind by kind. -/
theorem bigSep_CK (Φ : CK → sProp 𝕄) :
    bigSep Finset.univ Φ = iprop((Φ (.inl false) ∗ Φ (.inl true))
      ∗ bigSep Finset.univ (fun k : Dev nD => Φ (.inr (false, k))) ∗ bigSep Finset.univ (fun j : Dev nD => Φ (.inr (true, j)))) := by
  have hb (Ψ : Bool → sProp 𝕄) : bigSep Finset.univ Ψ = iprop(Ψ false ∗ Ψ true) :=
    bigSep_univ_eq_bigSepL [false, true] (by decide) (by decide) Ψ
  rw [bigSep_univ_sum, bigSep_univ_prod, hb, hb]
  rfl

omit [FloatOps F] in
/-- A family over a set, on a part of it and on the rest. -/
theorem on_part {I : Type} [DecidableEq I] {t s : Finset I} (h : t ⊆ s) (Φ : I → sProp 𝕄) :
    bigSep s Φ = iprop(bigSep t Φ ∗ bigSep (s \ t) Φ) := bigSep_sdiff_split h

omit [FloatOps F] in
/-- A family follows from another one by one. -/
theorem each {I : Type} (s : Finset I) {Φ Ψ : I → sProp 𝕄} (h : ∀ i ∈ s, Φ i ⊢ Ψ i) : bigSep s Φ ⊢ bigSep s Ψ := bigSep_mono h

/-! ## The two slots of the buffer the result leaves from -/

/-- A slot's elements. -/
abbrev ovSet (c : Dev nD) (s : Bool) : Finset (Idx (ovM.view.loc (c : Thread nD τ))) :=
  if s then ovB.view.set else ovA.view.set

/-- The first slot's elements are its rectangle's, -/
theorem ovA_set : ovA.view.set = rectA.set := (View.set_reshape _ _).trans (View.set_slice_whole cc0_scratch2 rectA)
/-- and the second's its own. -/
theorem ovB_set : ovB.view.set = rectB.set := (View.set_reshape _ _).trans (View.set_slice_whole cc0_scratch2 rectB)

/-- The two slots share no element, -/
theorem ov_disjoint (c : Dev nD) : ∀ s ∈ (Finset.univ : Finset Bool), ∀ t ∈ (Finset.univ : Finset Bool), s ≠ t → Disjoint (ovSet c s) (ovSet c t) := by
  have h : Disjoint ovA.view.set ovB.view.set := by
    rw [ovA_set, ovB_set, Finset.disjoint_left]
    intro i ha hb
    have h1 := Rect.mem_set_unit.mp ha 0
    have h2 := Rect.mem_set_unit.mp hb 0
    have e1 : S1x256x1024.size 0 = 1 := rfl
    simp only [Matrix.cons_val_zero] at h1 h2
    omega
  rintro (_ | _) - (_ | _) - hne
  · exact absurd rfl hne
  · exact h
  · exact h.symm
  · exact absurd rfl hne

/-- and make up the buffer. -/
theorem ov_cover (c : Dev nD) : Finset.univ.biUnion (ovSet c) = Finset.univ := by
  refine Finset.eq_univ_iff_forall.mpr fun i => Finset.mem_biUnion.mpr ?_
  have h0 : (i 0).val < 2 := (i 0).isLt
  have hin (n : ℕ) (hn : (i 0).val = n) (inb : ∀ a, (![n, 0, 0] : Fin 3 → ℕ) a + S1x256x1024.size a ≤ S2x256x1024.size a) :
      i ∈ (Rect.unit (s := S2x256x1024) ![n, 0, 0] S1x256x1024.size inb).set := by
    refine Rect.mem_set_unit.mpr fun a => ?_
    match a with
    | ⟨0, _⟩ => exact ⟨le_of_eq hn.symm, by show (i 0).val < n + 1; omega⟩
    | ⟨1, _⟩ => exact ⟨Nat.zero_le _, (Nat.zero_add _).symm ▸ (i 1).isLt⟩
    | ⟨2, _⟩ => exact ⟨Nat.zero_le _, (Nat.zero_add _).symm ▸ (i 2).isLt⟩
  by_cases h : (i 0).val = 0
  · exact ⟨false, Finset.mem_univ _, by rw [show ovSet c false = rectA.set from ovA_set]; exact hin 0 h _⟩
  · exact ⟨true, Finset.mem_univ _, by rw [show ovSet c true = rectB.set from ovB_set]; exact hin 1 (by omega) _⟩

omit [FloatOps F] in
/-- A family over two things is the two. -/
theorem bigSep_bool (Ψ : Bool → sProp 𝕄) : bigSep Finset.univ Ψ = iprop(Ψ false ∗ Ψ true) :=
  bigSep_univ_eq_bigSepL [false, true] (by decide) (by decide) Ψ

/-- The buffer is its two slots, -/
theorem ov_split (c : Dev nD) (f : Buf (Elt F) (ovM.view.loc (c : Thread nD τ))) :
    held c ovM f ⊢ iprop(ovHeld c ovA f ∗ ovHeld c ovB f) := by
  unfold held
  rw [← ov_cover c]
  exact (Entails.of_eq (pointsTo_biUnion (ℓ := ovM.view.loc (c : Thread nD τ)) (f := f) Finset.univ (ovSet c) (ov_disjoint c))).trans
    (Entails.of_eq (bigSep_bool _))

/-- and comes together of them. -/
theorem ov_join (c : Dev nD) : iprop((∃ f, ovHeld (F := F) c ovA f) ∗ (∃ f, ovHeld (F := F) c ovB f)) ⊢ iprop(∃ f, held c ovM f) := by
  iintro ⟨⟨%fa, HA⟩, ⟨%fb, HB⟩⟩
  ihave ⟨%f, -, H⟩ := (pointsTo_biUnion_join (ℓ := ovM.view.loc (c : Thread nD τ)) (q := fullShare) Finset.univ (ovSet c)
    (fun s => if s then fb else fa) fa (ov_disjoint c)) $$ [HA HB]
  · rw [bigSep_bool]
    isplitl [HA]; · iexact HA
    iexact HB
  iexists f
  unfold held
  rw [← ov_cover c]
  iexact H

/-- The totals row comes together of its shares. -/
theorem tot_join (c : Dev nD) : iprop(totRest m c ∗ bigSep (after c) (fun k => totShare m c k)) ⊢ iprop(∃ f, held c totM f) := by
  iintro ⟨⟨Hd, Hrest⟩, Hsh⟩
  iexists (totV m c)
  unfold held
  rw [← View.set_whole cc0_scratch3]
  iapply (Transfers.pointsTo_toks_join (ℓ := totM.view.loc (c : Thread nD τ)) (S := totM.view.set) (f := (totV m c : Buf (Elt F) (totM.view.loc (c : Thread nD τ)))) fullShare 8)
  isplitl [Hd]; · iexact Hd
  iapply (Entails.of_eq (on_part (Finset.subset_univ (after c)) (totShare m c)).symm)
  isplitl [Hsh] <;> iassumption

/-! ## Closing the cells -/

/-- The owner of a cell past its last round. -/
def done (c : Dev nD) (k : CK) : sProp 𝕄 :=
  iprop(∃ R, ⌜∀ r, R ≤ r → (Rd m).duties (kcell (c, k)) r = ∅⌝ ∗ atPos ER (kcell (c, k)) R ∅ 0)

/-- A cell past its one round is done with, -/
theorem done_later (c : Dev nD) (k : CK) : (atPos ER (kcell (c, k)) 1 ∅ 0 : sProp 𝕄) ⊢ done m c k := by
  unfold done
  iintro H
  iexists 1
  isplitr; · ipureintro; exact duties_later m _
  iexact H
/-- and so is one that no device has a duty to. -/
theorem done_unused (c : Dev nD) (k : CK) (h : dutK c k = ∅) : (atPos ER (kcell (c, k)) 0 ∅ 0 : sProp 𝕄) ⊢ done m c k := by
  unfold done
  iintro H
  iexists 0
  isplitr; · ipureintro; exact duties_unused m c k h
  iexact H

/-- A cell's counter at zero, given back. -/
theorem close (c : Dev nD) (k : CK) : iprop(recs m K ∗ done m c k) ⊢ iprop(|={Set.univ}=> zero (F := F) c (csem k)) := by
  unfold done
  iintro ⟨#HR, ⟨%R, %hR, Hat⟩⟩
  iapply (Rounds.cell_close ER (Rd m) (Set.mem_univ (K (c, k))) (fun h => h) (R := R) hR)
  isplitr; · iapply (recs_inv m K c k); iexact HR
  iexact Hat

/-- All of a device's cells. -/
theorem close_all (c : Dev nD) :
    iprop(recs m K ∗ bigSep Finset.univ (done m c)) ⊢ iprop(|={Set.univ}=> bigSep Finset.univ (fun k => zero (F := F) c (csem k))) :=
  (bigSep_with_persistent (R := recs m K) (Ψ := fun k => iprop(|={Set.univ}=> zero (F := F) c (csem k))) fun k _ => close m K c k).trans
    (bigSep_fupd _ _)

/-! ## Start and end -/

/-- The tokens of the duties device `c` pays. -/
def payToks (c : Dev nD) : sProp 𝕄 :=
  iprop(bigSep (others c) (fun q => dutyTok ER (barCell q) 0 c)
    ∗ bigSep (after c) (fun k => iprop(dutyTok ER (sendCell c k) 0 k ∗ dutyTok ER (recvCell k c) 0 c))
    ∗ bigSep (before c) (fun j => dutyTok ER (ackCell j) 0 c))

/-- What device `c` holds of the protocol at the start, beside the records: its positions and tokens, -/
def ghost (c : Dev nD) : sProp 𝕄 := iprop(bigSep Finset.univ (fun k => atPos ER (kcell (c, k)) 0 ∅ 0) ∗ payToks (F := F) c)
/-- and the credits for what it is sent. -/
def creds (c : Dev nD) : sProp 𝕄 :=
  iprop(cred (tallyAt (barCell c) () 7) ∗ cred (tallyAt (ackCell c) () (7 - c.val))
    ∗ bigSep (before c) (fun j => cred (tallyAt (recvCell c j) () N)))

/-- The scratch buffers, each at some contents. -/
def scratch (c : Dev nD) : sProp 𝕄 :=
  iprop((∃ f, held (F := F) c xvM f) ∗ (∃ f, held (F := F) c pvM f) ∗ (∃ f, held (F := F) c ovM f) ∗ (∃ f, held (F := F) c totM f) ∗ (∃ f, held (F := F) c rcvM f))

/-- What the result's buffer holds at the end: blocks made of the rows received and of the running sums. -/
def Res (c : Dev nD) (R : Buf (Elt F) (oM.view.loc (c : Thread nD τ))) : Prop :=
  ∃ (g : Buf (Elt F) (rcvM.view.loc (c : Thread nD τ))) (f1 : Buf (Elt F) (pvM.view.loc (c : Thread nD τ))), Landed m c g
    ∧ R = outV (blks c g (xb m c)
        (pvM.view.writes (Elt F) (pvM.view.writes (Elt F) f1 [⟨Rect.unit (s := S512x1024) ![0, 0] S256x1024.size inb_S512x1024_S256x1024_0_0,
            k0_pay3 (rowsOf (xb m c) 0 inb_S2048x1024_S256x1024_0_0)⟩])
          [⟨Rect.unit (s := S512x1024) ![256, 0] S256x1024.size inb_S512x1024_S256x1024_256_0, k0_pay5 (k0_pay4 (rowsOf (xb m c) 256 inb_S2048x1024_S256x1024_256_0))⟩])
        (me c) (k0_pay6 (F := F)) (k0_pay7 (me c) (rowAt c g 0 inb_S8x1x1024_S1x1x1024_0_0_0)) (k0_pay2 (F := F)))

/-- What the body starts from on device `c`, -/
def bodyPre (c : Dev nD) : sProp 𝕄 :=
  iprop(recs m K ∗ levAts L lv ∗ (∃ W, owes (c : Thread nD τ) (O₀ c) W) ∗ ghost (F := F) c ∗ creds (F := F) c
    ∗ held c xM (xb m c) ∗ (∃ f, held (F := F) c oM f) ∗ scratch (F := F) c ∗ inZero (F := F) c ∗ outZero (F := F) c)
/-- and what it ends in. -/
def bodyPost (c : Dev nD) : sProp 𝕄 :=
  iprop((∃ W, owes (c : Thread nD τ) 0 W) ∗ held c xM (xb m c) ∗ (∃ f, ⌜Res m c f⌝ ∗ held c oM f) ∗ scratch (F := F) c
    ∗ inZero (F := F) c ∗ outZero (F := F) c ∗ bigSep Finset.univ (fun k => zero (F := F) c (csem k)))

/-- What a device signals with: to an earlier one, the slot of its own landing buffer that one writes to. -/
theorem sig_start (c : Dev nD) :
    iprop((∃ W, owes (c : Thread nD τ) (O₀ c) W) ∗ bigSep (others c) (fun q => dutyTok ER (barCell q) 0 c) ∗ bigSep (before c) (fun j => slotAny (F := F) c j))
      ⊢ SigSt m c 0 := by
  have hsub : before c ⊆ others c := by revert c; decide
  have h1 : bigSep (before c) (fun j => slotAny (F := F) c j) ⊢ bigSep (others c) (fun q => payK m q (.inl false) c) := by
    have hlow : bigSep (before c) (fun q => payK m q (.inl false) c) = bigSep (before c) (fun j => slotAny (F := F) c j) :=
      bigSep_congr fun q hq => by dsimp only [payK]; rw [if_pos (Finset.mem_filter.mp hq).2]
    have hhigh : bigSep (others c \ before c) (fun q => payK m q (.inl false) c) = bigSep (others c \ before c) (fun _ => iprop(emp)) :=
      bigSep_congr fun q hq => by
        dsimp only [payK]
        rw [if_neg fun h => (Finset.mem_sdiff.mp hq).2 (Finset.mem_filter.mpr ⟨Finset.mem_univ _, h⟩)]
    rw [on_part hsub, hlow, hhigh]
    iintro H
    isplitl [H]; · iexact H
    iapply (Entails.of_eq (bigSep_emp_const (others c \ before c)).symm)
    iempintro
  unfold SigSt
  rw [pendB_zero]
  iintro ⟨HO, Ht, Hs⟩
  isplitl [HO]; · iexact HO
  iapply (pair (others c) (fun q => (dutyTok ER (barCell q) 0 c : sProp 𝕄)) (fun q => payK m q (.inl false) c))
  isplitl [Ht]; · iexact Ht
  iapply h1; iexact Hs

/-- Once every other device is signalled, the barrier's debts are paid. -/
theorem sig_end (c : Dev nD) : SigSt m c 8 ⊢ iprop(∃ W, owes (c : Thread nD τ) (O₁ c) W) := by
  unfold SigSt
  rw [pendB_end]
  unfold barDebt
  rw [Finset.sum_empty, add_zero]
  iintro ⟨H, -⟩
  iexact H

/-- From the sends to the receives. -/
theorem rcv_start (c : Dev nD) :
    iprop(SndSt m c 28 ∗ bigSep (before c) (fun j => cred (tallyAt (recvCell c j) () N)) ∗ bigSep (before c) (fun j => atPos ER (recvCell c j) 0 ∅ 0)
        ∗ bigSep (before c) (fun j => dutyTok ER (ackCell j) 0 c))
      ⊢ iprop(RcvSt m c 0 0 ∗ bigSep (after c) (fun k => cred (tallyAt (sendCell c k) () N))) := by
  unfold SndSt RcvSt
  rw [pendS_end, doneS_end, lowFrom_zero, lowUpto_zero]
  unfold recvDebt
  rw [Finset.sum_empty, zero_add]
  iintro ⟨⟨HO, -, Hd⟩, Hc, Ha, Ht⟩
  isplitr [Hd]
  · isplitl [HO]; · iexact HO
    isplitl [Hc Ha]
    · iapply (pair (before c) (fun j => (cred (tallyAt (recvCell c j) () N) : sProp 𝕄)) (fun j => atPos ER (recvCell c j) 0 ∅ 0))
      isplitl [Hc] <;> iassumption
    isplitr; · iapply (nothing (F := F))
    iexact Ht
  iexact Hd

/-- From the receives to the waits at the end. -/
theorem end_start (c : Dev nD) :
    iprop((∃ W, owes (c : Thread nD τ) 0 W) ∗ bigSep (after c) (fun k => cred (tallyAt (sendCell c k) () N)) ∗ bigSep (after c) (fun k => atPos ER (sendCell c k) 0 ∅ 0)
        ∗ cred (tallyAt (ackCell c) () (7 - c.val)) ∗ atPos ER (ackCell c) 0 ∅ 0)
      ⊢ EndSt m c (c.val + 1) 0 := by
  unfold EndSt AckSt
  rw [highFrom_start, highUpto_start]
  iintro ⟨HO, Hc, Ha, Hca, Haa⟩
  isplitl [HO]; · iexact HO
  isplitl [Hc Ha]
  · iapply (pair (after c) (fun k => (cred (tallyAt (sendCell c k) () N) : sProp 𝕄)) (fun k => atPos ER (sendCell c k) 0 ∅ 0))
    isplitl [Hc] <;> iassumption
  isplitr; · iapply (nothing (F := F))
  by_cases h : c.val < 7
  · rw [if_pos (by omega), Nat.sub_zero]
    isplitl [Hca]; · iexact Hca
    iexists ∅
    isplitr; · ipureintro; exact Finset.empty_subset _
    iexact Haa
  · rw [if_neg (by omega), if_neg h]
    iexact Haa

/-- The cells at the end, every one past its last round. -/
theorem all_done (c : Dev nD) :
    iprop(atPos ER (barCell c) 1 ∅ 0 ∗ bigSep (before c) (fun j => (atPos ER (recvCell c j) 1 ∅ 0 : sProp 𝕄))
        ∗ bigSep (Finset.univ \ before c) (fun j => (atPos ER (recvCell c j) 0 ∅ 0 : sProp 𝕄))
        ∗ bigSep (Finset.univ \ after c) (fun k => (atPos ER (sendCell c k) 0 ∅ 0 : sProp 𝕄))
        ∗ EndSt m c 8 (7 - c.val))
      ⊢ iprop((∃ W, owes (c : Thread nD τ) 0 W) ∗ bigSep (after c) (fun k => totShare m c k) ∗ bigSep Finset.univ (done m c)) := by
  unfold EndSt AckSt
  rw [highFrom_end, highUpto_end, if_neg (Nat.lt_irrefl _), bigSep_CK,
    on_part (Finset.subset_univ (before c)) (fun j => done m c (.inr (true, j))),
    on_part (Finset.subset_univ (after c)) (fun j => done m c (.inr (false, j)))]
  iintro ⟨Hb, Hr, Hru, Hsu, HO, -, Hs, Ha⟩
  ihave ⟨Hs, Hsh⟩ := (unpair (after c) (fun k => (atPos ER (sendCell c k) 1 ∅ 0 : sProp 𝕄)) (fun k => totShare m c k)) $$ Hs
  isplitl [HO]; · iexact HO
  isplitl [Hsh]; · iexact Hsh
  isplitl [Hb Ha]
  · isplitl [Hb]; · iapply (done_later m c (.inl false)); iexact Hb
    by_cases h : c.val < 7
    · rw [if_pos h]; iapply (done_later m c (.inl true)); iexact Ha
    · rw [if_neg h]
      iapply (done_unused m c (.inl true) (by revert c; decide)); iexact Ha
  isplitl [Hs Hsu]
  · isplitl [Hs]
    · iapply (each (after c) (Φ := fun k => (atPos ER (sendCell c k) 1 ∅ 0 : sProp 𝕄)) fun k _ => done_later m c (.inr (false, k))) $$ Hs
    · iapply (each (Finset.univ \ after c) (Φ := fun k => (atPos ER (sendCell c k) 0 ∅ 0 : sProp 𝕄)) fun k hk => done_unused m c (.inr (false, k))
        (if_neg fun h => (Finset.mem_sdiff.mp hk).2 (Finset.mem_filter.mpr ⟨Finset.mem_univ _, h⟩))) $$ Hsu
  · isplitl [Hr]
    · iapply (each (before c) (Φ := fun j => (atPos ER (recvCell c j) 1 ∅ 0 : sProp 𝕄)) fun j _ => done_later m c (.inr (true, j))) $$ Hr
    · iapply (each (Finset.univ \ before c) (Φ := fun j => (atPos ER (recvCell c j) 0 ∅ 0 : sProp 𝕄)) fun j hj => done_unused m c (.inr (true, j))
        (if_neg fun h => (Finset.mem_sdiff.mp hj).2 (Finset.mem_filter.mpr ⟨Finset.mem_univ _, h⟩))) $$ Hru

/-! ## The pieces that span several parts, with what follows them -/

/-- The load, and then the rest. -/
theorem load_then (c : Dev nD) (f0 : Buf (Elt F) (xvM.view.loc (c : Thread nD τ))) (f3 : Buf (Elt F) (totM.view.loc (c : Thread nD τ))) (W : Waits sig Unit)
    (v2 : BitVec 32) {α : Type} {Q : α → sProp 𝕄} {kk : BitVec 32 → Prog (TpuEff nD τ sig (Elt F) Λ₀ .tc) α} :
    iprop(recs m K ∗ levAts L lv ∗ owes (c : Thread nD τ) (O₁ c) W ∗ held c xM (xb m c) ∗ held c xvM f0 ∗ held c totM f3 ∗ inZero c
        ∗ cred (tallyAt (barCell c) () 7) ∗ atPos ER (barCell c) 0 ∅ 0
        ∗ bigSep (after c) (fun k => iprop(dutyTok ER (sendCell c k) 0 k ∗ dutyTok ER (recvCell k c) 0 c)))
      ⊢ iprop((∀ w, (SndSt m c 1 ∗ held c xM (xb m c) ∗ held c xvM (xb m c) ∗ totRest m c ∗ inZero c ∗ atPos ER (barCell c) 1 ∅ 0)
            -∗ wp frame (wpE (defs₀ (F := F)) 𝒱₀ (c : Thread nD τ) none) Set.univ (kk w) Q)
        -∗ wp frame (wpE (defs₀ (F := F)) 𝒱₀ (c : Thread nD τ) none) Set.univ
            (onArgs (k0_part13 (F := F)) >>= fun _ => onArgs (k0_part14 (F := F)) >>= fun _ =>
              onArgs (k0_part15 (F := F)) c v2 (SemArray.scalar (sig.barrier 0 rfl)) >>= kk) Q) := by
  have h := load_phase m K c f0 f3 W v2 (Φ := fun w => wp frame (wpE (defs₀ (F := F)) 𝒱₀ (c : Thread nD τ) none) Set.univ (kk w) Q)
  rw [← wp_bind, bind_assoc] at h
  simp only [bind_assoc] at h
  refine h.trans ?_
  iintro H Hk
  iapply H
  iintro HS
  iapply Hk
  iexact HS

/-- The result's blocks, and then the rest. -/
theorem outs_then (c : Dev nD) (g : Buf (Elt F) (rcvM.view.loc (c : Thread nD τ))) (X : Buf (Elt F) (xvM.view.loc (c : Thread nD τ)))
    (f1 : Buf (Elt F) (pvM.view.loc (c : Thread nD τ)))
    (fa : Buf (Elt F) (ovA.view.loc (c : Thread nD τ))) (fb : Buf (Elt F) (ovB.view.loc (c : Thread nD τ))) (fo : Buf (Elt F) (oM.view.loc (c : Thread nD τ)))
    (v2 : BitVec 32) (hv : v2 = me c) (v218 v223 : FVec F S1x1024 .f32) (v186 : FVec F S256x256 .f32)
    {α : Type} {Q : α → sProp 𝕄} {kk : PUnit.{1} → Prog (TpuEff nD τ sig (Elt F) Λ₀ .tc) α} :
    iprop(EndAt m K c 0 ∗ held c rcvM g ∗ held c xvM X ∗ held c pvM f1 ∗ ovHeld c ovA fa ∗ ovHeld c ovB fb ∗ held c oM fo ∗ outZero c)
      ⊢ iprop((EndAt m K c 3 ∗ held c rcvM g ∗ held c xvM X ∗ held c pvM f1 ∗ (∃ f, ovHeld c ovA f) ∗ (∃ f, ovHeld c ovB f)
          ∗ held c oM (outV (blks c g X f1 v2 v218 v223 v186)) ∗ outZero c
            -∗ wp frame (wpE (defs₀ (F := F)) 𝒱₀ (c : Thread nD τ) none) Set.univ (kk ⟨⟩) Q)
        -∗ wp frame (wpE (defs₀ (F := F)) 𝒱₀ (c : Thread nD τ) none) Set.univ
            (onArgs (k0_part20 (F := F)) v2 v218 v223 >>= fun y => onArgs (k0_part21 (F := F)) y.1 y.2 >>= fun _ => onArgs (k0_part22 (F := F)) v186 >>= fun v305 =>
              onArgs (k0_part23 (F := F)) v186 v305 >>= fun _ => onArgs (k0_part24 (F := F)) v186 >>= fun v362 =>
              onArgs (k0_part25 (F := F)) v186 v362 >>= fun v390 => onArgs (k0_part26 (F := F)) v2 v390 >>= kk) Q) := by
  have h := outs m K c g X f1 fa fb fo v2 hv v218 v223 v186
    (Φ := fun w => wp frame (wpE (defs₀ (F := F)) 𝒱₀ (c : Thread nD τ) none) Set.univ (kk w) Q)
  rw [← wp_bind] at h
  simp only [bind_assoc] at h
  exact h

/-- Past the last device's waits, a device has waited for all it has to. -/
theorem endAt_all (c : Dev nD) : EndAt m K c 7 ⊢ EndSt m c 8 (7 - c.val) := by
  unfold EndAt
  iintro ⟨-, HS⟩
  by_cases h : c.val < 7
  · rw [if_pos h, if_pos h]; iexact HS
  · have h7 : c.val = 7 := by have := c.isLt; have e : nD = 8 := rfl; omega
    rw [if_neg h, if_neg h, h7]; iexact HS

/-! ## The run -/

set_option maxHeartbeats 1000000 in
/-- One device's run of the kernel. -/
theorem body (c : Dev nD) {Φ : PUnit.{1} → sProp 𝕄} :
    bodyPre m K c ⊢ iprop((bodyPost m c -∗ Φ ⟨⟩)
      -∗ wp frame (wpE (defs₀ (F := F)) 𝒱₀ (c : Thread nD τ) none) Set.univ (onArgs (cc0_body (F := F))) Φ) := by
  unfold onArgs
  rw [cc0_body_eq_skeleton]
  unfold cc0_body_skel
  change _ ⊢ iprop(_ -∗ wp frame (wpE (defs₀ (F := F)) 𝒱₀ (c : Thread nD τ) none) Set.univ
    (onArgs (k0_part12 (F := F)) >>= fun y => onArgs (k0_part13 (F := F)) >>= fun _ => onArgs (k0_part14 (F := F)) >>= fun _ =>
      onArgs (k0_part15 (F := F)) y.1 y.2.1 y.2.2 >>= fun w => onArgs (k0_part16 (F := F)) y.1 y.2.1 w >>= fun w => onArgs (k0_part17 (F := F)) y.1 y.2.1 w >>= fun w =>
      onArgs (k0_part18 (F := F)) y.1 y.2.1 w >>= fun z => onArgs (k0_part19 (F := F)) y.1 y.2.1 z.2 >>= fun v =>
      onArgs (k0_part20 (F := F)) y.2.1 v.1 v.2 >>= fun u => onArgs (k0_part21 (F := F)) u.1 u.2 >>= fun _ => onArgs (k0_part22 (F := F)) z.1 >>= fun v305 =>
        onArgs (k0_part23 (F := F)) z.1 v305 >>= fun _ => onArgs (k0_part24 (F := F)) z.1 >>= fun v362 =>
        onArgs (k0_part25 (F := F)) z.1 v362 >>= fun v390 => onArgs (k0_part26 (F := F)) y.2.1 v390 >>= _) Φ)
  unfold bodyPre ghost payToks creds scratch
  rw [bigSep_CK]
  iintro ⟨#HR, #Hlev, HO, ⟨⟨⟨Hab, Haa⟩, Has, Har⟩, Htb, Hts, Hta⟩, ⟨Hcb, Hca, Hcr⟩, Hx, ⟨%fo, Ho⟩, ⟨⟨%f0, H0⟩, ⟨%f1, H1⟩, ⟨%f2, H2⟩, ⟨%f3, H3⟩, ⟨%f4, H4⟩⟩, Hin, Hout⟩ Hk
  ihave ⟨Hslo, Hshi⟩ := (slots_split c f4) $$ H4
  ihave ⟨HA, HB⟩ := (ov_split c f2) $$ H2
  ihave ⟨Harb, Haru⟩ := (Entails.of_eq (on_part (Finset.subset_univ (before c)) (fun j => (atPos ER (recvCell c j) 0 ∅ 0 : sProp 𝕄)))) $$ Har
  ihave ⟨Hasa, Hasu⟩ := (Entails.of_eq (on_part (Finset.subset_univ (after c)) (fun k => (atPos ER (sendCell c k) 0 ∅ 0 : sProp 𝕄)))) $$ Has
  ihave HS := (sig_start m c) $$ [HO Htb Hslo]
  · isplitl [HO]; · iexact HO
    isplitl [Htb] <;> iassumption
  rw [wp_bind]
  iapply (signals m K c) $$ [HS]
  · isplitr; · iexact HR
    iexact HS
  iintro HS
  ihave ⟨%W, HO⟩ := (sig_end m c) $$ HS
  iapply (load_then m K c f0 f3 W (me c)) $$ [HO Hx H0 H3 Hin Hcb Hab Hts]
  · isplitr; · iexact HR
    isplitr; · iexact Hlev
    isplitl [HO]; · iexact HO
    isplitl [Hx]; · iexact Hx
    isplitl [H0]; · iexact H0
    isplitl [H3]; · iexact H3
    isplitl [Hin]; · iexact Hin
    isplitl [Hcb]; · iexact Hcb
    isplitl [Hab] <;> iassumption
  iintro %w1 ⟨HS, Hx, H0, Htot, Hin, Hab⟩
  rw [wp_bind]
  iapply (sends16 m K c (me c) w1) $$ [HS]
  · isplitr; · iexact HR
    iexact HS
  iintro %w2 HS
  rw [wp_bind]
  iapply (sends17 m K c (me c) w2) $$ [HS]
  · isplitr; · iexact HR
    iexact HS
  iintro %w3 HS
  rw [wp_bind]
  iapply (sends18 m K c f1 (me c) w3) $$ [HS H0 H1]
  · isplitr; · iexact HR
    isplitl [HS]; · iexact HS
    isplitl [H0] <;> iassumption
  iintro ⟨HS, H0, H1⟩
  ihave ⟨HS, Hcs⟩ := (rcv_start m c) $$ [HS Hcr Harb Hta]
  · isplitl [HS]; · iexact HS
    isplitl [Hcr]; · iexact Hcr
    isplitl [Harb] <;> iassumption
  rw [wp_bind]
  iapply (receives19 m K c _ (me c) (k0_pay4 (rowsOf (xb m c) 256 inb_S2048x1024_S256x1024_256_0))) $$ [HS H1 Hshi]
  · isplitr; · iexact HR
    isplitr; · iexact Hlev
    isplitl [HS]; · iexact HS
    isplitl [H1] <;> iassumption
  iintro %g %hg ⟨⟨HO, Harb⟩, H4, H1⟩
  ihave HS := (end_start m c) $$ [HO Hcs Hasa Hca Haa]
  · isplitl [HO]; · iexact HO
    isplitl [Hcs]; · iexact Hcs
    isplitl [Hasa]; · iexact Hasa
    isplitl [Hca] <;> iassumption
  iapply (outs_then m K c g (xb m c) _ f2 f2 fo (me c) rfl (k0_pay6 (F := F)) (k0_pay7 (me c) (rowAt c g 0 inb_S8x1x1024_S1x1x1024_0_0_0)) (k0_pay2 (F := F))) $$ [HS H4 H0 H1 HA HB Ho Hout]
  · isplitl [HS]
    · rw [show EndAt m K c 0 = iprop(recs m K ∗ EndSt m c (c.val + 1) 0) from rfl]
      isplitr; · iexact HR
      iexact HS
    isplitl [H4]; · iexact H4
    isplitl [H0]; · iexact H0
    isplitl [H1]; · iexact H1
    isplitl [HA]; · iexact HA
    isplitl [HB]; · iexact HB
    isplitl [Ho] <;> iassumption
  iintro ⟨⟨-, HS⟩, H4, H0, H1, HA, HB, Ho, Hout⟩
  iapply (if_step c (P := EndAt m K c 3) (P' := EndAt m K c 4) (fun h => endAt_next m K c 3 fun e => h ((isNo 3 c).2 e))) $$ [HS]
  · isplitl [HS]
    · isplitr; · iexact HR
      iexact HS
    iintro %h
    have hc : c = 3 := Fin.ext ((isNo 3 c).1 h)
    iintro ⟨-, HS⟩ Hk
    rw [show (if c.val < 3 then 8 else c.val + 1) = 4 by subst hc; rfl, show (if c.val < 3 then 7 - c.val else 0) = 0 by subst hc; rfl]
    iapply (ends11 m K c hc) $$ [HS]
    · isplitr <;> iassumption
    iintro HS
    iapply Hk
    isplitr; · iexact HR
    rw [show (if c.val < 4 then 8 else c.val + 1) = 8 by subst hc; rfl, show (if c.val < 4 then 7 - c.val else 0) = 4 by subst hc; rfl]
    iexact HS
  iintro ⟨-, HS⟩
  iapply (if_step c (P := EndAt m K c 4) (P' := EndAt m K c 5) (fun h => endAt_next m K c 4 fun e => h ((isNo 4 c).2 e))) $$ [HS]
  · isplitl [HS]
    · isplitr; · iexact HR
      iexact HS
    iintro %h
    have hc : c = 4 := Fin.ext ((isNo 4 c).1 h)
    iintro ⟨-, HS⟩ Hk
    rw [show (if c.val < 4 then 8 else c.val + 1) = 5 by subst hc; rfl, show (if c.val < 4 then 7 - c.val else 0) = 0 by subst hc; rfl]
    iapply (sendWait_pair m K c 5 6 5 (by subst hc; decide) rfl (by subst hc; decide) rfl _ _ rfl rfl) $$ [HS]
    · isplitr <;> iassumption
    iintro HS
    iapply (sendWait_step m K c 7 7 0 (by subst hc; decide) rfl _ rfl) $$ [HS]
    · isplitr <;> iassumption
    iintro HS
    iapply (ackWait_pair m K c 0 (by subst hc; decide)) $$ [HS]
    · isplitr <;> iassumption
    iintro HS
    iapply (ackWait_step m K c 8 2 (by subst hc; decide)) $$ [HS]
    · isplitr <;> iassumption
    iintro HS
    iapply Hk
    isplitr; · iexact HR
    rw [show (if c.val < 5 then 8 else c.val + 1) = 8 by subst hc; rfl, show (if c.val < 5 then 7 - c.val else 0) = 3 by subst hc; rfl]
    iexact HS
  iintro ⟨-, HS⟩
  iapply (if_step c (P := EndAt m K c 5) (P' := EndAt m K c 6) (fun h => endAt_next m K c 5 fun e => h ((isNo 5 c).2 e))) $$ [HS]
  · isplitl [HS]
    · isplitr; · iexact HR
      iexact HS
    iintro %h
    have hc : c = 5 := Fin.ext ((isNo 5 c).1 h)
    iintro ⟨-, HS⟩ Hk
    rw [show (if c.val < 5 then 8 else c.val + 1) = 6 by subst hc; rfl, show (if c.val < 5 then 7 - c.val else 0) = 0 by subst hc; rfl]
    iapply (sendWait_pair m K c 6 7 6 (by subst hc; decide) rfl (by subst hc; decide) rfl _ _ rfl rfl) $$ [HS]
    · isplitr <;> iassumption
    iintro HS
    iapply (ackWait_pair m K c 0 (by subst hc; decide)) $$ [HS]
    · isplitr <;> iassumption
    iintro HS
    iapply Hk
    isplitr; · iexact HR
    rw [show (if c.val < 6 then 8 else c.val + 1) = 8 by subst hc; rfl, show (if c.val < 6 then 7 - c.val else 0) = 2 by subst hc; rfl]
    iexact HS
  iintro ⟨-, HS⟩
  iapply (if_step c (P := EndAt m K c 6) (P' := EndAt m K c 7) (fun h => endAt_next m K c 6 fun e => h ((isNo 6 c).2 e))) $$ [HS]
  · isplitl [HS]
    · isplitr; · iexact HR
      iexact HS
    iintro %h
    have hc : c = 6 := Fin.ext ((isNo 6 c).1 h)
    iintro ⟨-, HS⟩ Hk
    rw [show (if c.val < 6 then 8 else c.val + 1) = 7 by subst hc; rfl, show (if c.val < 6 then 7 - c.val else 0) = 0 by subst hc; rfl]
    iapply (sendWait_step m K c 7 7 0 (by subst hc; decide) rfl _ rfl) $$ [HS]
    · isplitr <;> iassumption
    iintro HS
    iapply (ackWait_step m K c 8 0 (by subst hc; decide)) $$ [HS]
    · isplitr <;> iassumption
    iintro HS
    iapply Hk
    isplitr; · iexact HR
    rw [show (if c.val < 7 then 8 else c.val + 1) = 8 by subst hc; rfl, show (if c.val < 7 then 7 - c.val else 0) = 1 by subst hc; rfl]
    iexact HS
  iintro HS
  rw [Prog.pure_eq_ret, wp_ret]
  ihave HS := (endAt_all m K c) $$ HS
  ihave ⟨HO, Hsh, Hd⟩ := (all_done m c) $$ [HS Hab Harb Haru Hasu]
  · isplitl [Hab]; · iexact Hab
    isplitl [Harb]; · iexact Harb
    isplitl [Haru]; · iexact Haru
    isplitl [Hasu] <;> iassumption
  ihave >Hz := (close_all m K c) $$ [Hd]
  · isplitr; · iexact HR
    iexact Hd
  imodintro
  iapply Hk
  unfold bodyPost scratch
  isplitl [HO]; · iexact HO
  isplitl [Hx]; · iexact Hx
  isplitl [Ho]
  · iexists _
    isplitr; · ipureintro; exact ⟨g, f1, hg, rfl⟩
    iexact Ho
  isplitl [H0 H1 HA HB Htot Hsh H4]
  · isplitl [H0]; · iexists _; iexact H0
    isplitl [H1]; · iexists _; iexact H1
    isplitl [HA HB]
    · iapply (ov_join c)
      isplitl [HA] <;> iassumption
    isplitl [Htot Hsh]
    · iapply (tot_join m c)
      isplitl [Htot] <;> iassumption
    iexists _; iexact H4
  isplitl [Hin]; · iexact Hin
  isplitl [Hout] <;> iassumption

end Cert.KernelIdeal.Scan
-- ==== Proof.KernelIdealLaunch.lean ====
/-
# The launch

From any memory with all counters at zero: the cells' invariants made on every device, the tokens dealt to the devices
that pay the duties, the credits to the devices that wait; then every device's run; and at the end each device's
argument as it was, its result's buffer, and every counter at zero.
-/
module

public import proofs.«01_k».proof.Proof.KernelIdealBody
public import Idealize.ShloMosaic.Lib.Pipeline.CollectiveSegs

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the loads', the stores', the acknowledgement's, and the transfers'. -/
abbrev OK : Type := Fin 8 ⊕ (Fin 2 ⊕ (Unit ⊕ (Bool × Dev nD)))
/-- Which semaphore each is. -/
abbrev osem : OK → SemLoc sig
  | .inl i => .dma ⟨i.val, Nat.lt_of_lt_of_le i.isLt (by decide)⟩
  | .inr (.inl i) => .dma ⟨8 + i.val, Nat.lt_of_lt_of_le (Nat.add_lt_add_left i.isLt 8) (by decide)⟩
  | .inr (.inr (.inl _)) => .reg ackS
  | .inr (.inr (.inr p)) => csem (.inr p)

/-- The kernel's own semaphores are laid out as the launch expects. -/
theorem ownSemFacts : Pipeline.OwnSemFacts cfg0.spec osem := by decide

omit [FloatOps F] in
/-- A device's own counters: those of its local copies, and its protocol cells but the barrier. -/
theorem ownSems0_eq (c : Dev nD) : (Pipeline.ownSems0 (Ix := Unit) (Name := ℕ) (U := UU) (Lvl := ℕ) (Val := Elt F) (τ := τ) osem c : sProp 𝕄)
    = iprop(inZero (F := F) c ∗ outZero (F := F) c ∗ zero (F := F) c (csem (.inl true)) ∗ bigSep Finset.univ (fun p => zero (F := F) c (csem (.inr p)))) := by
  have h8 (Ψ : Fin 8 → sProp 𝕄) : bigSep Finset.univ Ψ = iprop(Ψ 0 ∗ Ψ 1 ∗ Ψ 2 ∗ Ψ 3 ∗ Ψ 4 ∗ Ψ 5 ∗ Ψ 6 ∗ Ψ 7) :=
    bigSep_univ_eq_bigSepL [0, 1, 2, 3, 4, 5, 6, 7] (by decide) (by decide) Ψ
  have h2 (Ψ : Fin 2 → sProp 𝕄) : bigSep Finset.univ Ψ = iprop(Ψ 0 ∗ Ψ 1) := bigSep_univ_eq_bigSepL [0, 1] (by decide) (by decide) Ψ
  have h1 (Ψ : Unit → sProp 𝕄) : bigSep Finset.univ Ψ = Ψ () := bigSep_univ_eq_bigSepL [()] (by decide) (by decide) Ψ
  unfold Pipeline.ownSems0
  rw [bigSep_univ_sum, bigSep_univ_sum, bigSep_univ_sum, h8, h2, h1]
  rfl

omit [FloatOps F] in
/-- The barrier's counter is the one outside the kernel. -/
theorem unscopedSems0_eq (c : Dev nD) : (unscopedSems0 c : sProp 𝕄) = zero (F := F) c (csem (.inl false)) := by
  unfold unscopedSems0; rw [bigSep_eq_bigSepL_of_eq [SemLoc.reg barS] (by decide) (by decide)]; rfl

omit [FloatOps F] in
/-- All of a device's protocol cells at zero. -/
theorem zeros_eq (c : Dev nD) : (bigSep Finset.univ (fun k => zero (F := F) c (csem k)) : sProp 𝕄)
    = iprop((zero (F := F) c (csem (.inl false)) ∗ zero (F := F) c (csem (.inl true))) ∗ bigSep Finset.univ (fun p => zero (F := F) c (csem (.inr p)))) := by
  rw [bigSep_univ_sum, bigSep_bool]
  rfl

/-! ## The cells and the tokens -/

/-- Different families or members are different cells. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All the cells of the protocol. -/
def cells : Finset (GSem nD τ sig) := Finset.univ.map ⟨kcell, kcell_injective⟩

/-- The tokens as a device pays them: for each other device `p`, of `p`'s barrier, of its own send cell, of `p`'s receive
    cell and of `p`'s acknowledgement cell. -/
abbrev tokAt (x : Dev nD × (Fin 4 × Dev nD)) : (Dev nD × CK) × Dev nD := match x.2.1 with
  | 0 => ((x.2.2, .inl false), x.1)
  | 1 => ((x.1, .inr (false, x.2.2)), x.2.2)
  | 2 => ((x.2.2, .inr (true, x.1)), x.1)
  | 3 => ((x.2.2, .inl true), x.1)

/-- Who pays a token. -/
def tokFrom (y : (Dev nD × CK) × Dev nD) : Dev nD × (Fin 4 × Dev nD) := match y.1.2 with
  | .inl false => (y.2, 0, y.1.1)
  | .inr (false, k) => (y.1.1, 1, k)
  | .inr (true, j) => (j, 2, y.1.1)
  | .inl true => (y.2, 3, y.1.1)

/-- The dealing can be read back from the duty dealt. -/
theorem tokFrom_tokAt (x : Dev nD × (Fin 4 × Dev nD)) : tokFrom (tokAt x) = x := by
  obtain ⟨c, i, p⟩ := x
  fin_cases i <;> rfl

/-- The duty dealt as number `x`: its cell, its round and who pays it. -/
abbrev tokOf (x : Dev nD × (Fin 4 × Dev nD)) : GSem nD τ sig × ℕ × Dev nD := (kcell (tokAt x).1, 0, (tokAt x).2)
/-- No duty is dealt twice. -/
theorem tokOf_injective : Function.Injective tokOf := fun x y h => by
  have h1 : (tokAt x).1 = (tokAt y).1 := kcell_injective (congrArg Prod.fst h)
  have h2 : (tokAt x).2 = (tokAt y).2 := congrArg (fun z : GSem nD τ sig × ℕ × Dev nD => z.2.2) h
  rw [← tokFrom_tokAt x, ← tokFrom_tokAt y, Prod.ext h1 h2]
/-- All the duties. -/
def toks : Finset (GSem nD τ sig × ℕ × Dev nD) := Finset.univ.map ⟨tokOf, tokOf_injective⟩

/-- The ghost state at launch: the pipeline's, and every cell and duty of the protocol. -/
def u₀ : UU :=
  (initOf (Pipeline.cells cfgs cellOf_inj) (Pipeline.launchToks cfgs cellOf_inj), (initOf cells toks, 1))

/-- The tokens dealt to device `c`. -/
def dealt (c : Dev nD) : sProp 𝕄 :=
  bigSep Finset.univ fun ip : Fin 4 × Dev nD => dutyTok ER (tokOf (c, ip)).1 (tokOf (c, ip)).2.1 (tokOf (c, ip)).2.2

/-- What the launch deals device `c`. -/
def G (c : Dev nD) : sProp 𝕄 :=
  iprop((bigSep Finset.univ fun k : CK => roundState ER (Rd m) (kcell (c, k)) 0)
    ∗ ((bigSep Finset.univ fun k : CK => atPos ER (kcell (c, k)) 0 ∅ 0) ∗ (bigSep Finset.univ fun k : CK => reached ER (kcell (c, k)) 0)) ∗ dealt (F := F) c)

/-- What is made of it on all devices together. -/
def G' (c : Dev nD) : sProp 𝕄 := iprop((∃ K, recs m K) ∗ ghost (F := F) c ∗ inZero (F := F) c ∗ outZero (F := F) c)

/-- The ghost state at launch makes what every device is dealt. -/
theorem fund_cells : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep toks (fun x => (dutyTok ER x.1 x.2.1 x.2.2 : sProp 𝕄)) = bigSep Finset.univ fun c : Dev nD => dealt (F := F) c := by
    unfold toks dealt; rw [bigSep_map, bigSep_univ_prod]; rfl
  iintro HX
  imod (Rounds.fund ER (Rd m) cells toks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Of the tokens dealt to it a device keeps those of duties there are. -/
theorem dealt_pay (c : Dev nD) : dealt (F := F) c ⊢ payToks (F := F) c := by
  have h4 (Ψ : Fin 4 → sProp 𝕄) : bigSep Finset.univ Ψ = iprop(Ψ 0 ∗ Ψ 1 ∗ Ψ 2 ∗ Ψ 3) := bigSep_univ_eq_bigSepL [0, 1, 2, 3] (by decide) (by decide) Ψ
  have hs (s : Finset (Dev nD)) (Ψ : Dev nD → sProp 𝕄) : bigSep Finset.univ Ψ ⊢ bigSep s Ψ := bigSep_subset (Finset.subset_univ s)
  unfold dealt payToks
  rw [bigSep_univ_prod, h4]
  iintro ⟨H0, H1, H2, H3⟩
  isplitl [H0]; · iapply (hs (others c) (fun q => dutyTok ER (barCell q) 0 c)); iexact H0
  isplitl [H1 H2]
  · iapply (pair (after c) (fun k => (dutyTok ER (sendCell c k) 0 k : sProp 𝕄)) (fun k => dutyTok ER (recvCell k c) 0 c))
    isplitl [H1]; · iapply (hs (after c) (fun k => dutyTok ER (sendCell c k) 0 k)); iexact H1
    iapply (hs (after c) (fun k => dutyTok ER (recvCell k c) 0 c)); iexact H2
  iapply (hs (before c) (fun j => dutyTok ER (ackCell j) 0 c)); iexact H3

/-- One device's invariants made. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CK => reached ER (kcell (c, k)) 0)
          ∗ ghost (F := F) c ∗ inZero (F := F) c ∗ outZero (F := F) c) := by
  rw [ownSems0_eq, unscopedSems0_eq]
  unfold G
  iintro ⟨⟨Hin, Hout, Hack, Hp⟩, Hbar, Hst, ⟨Hat, Hr⟩, Htok⟩
  ihave Hv := (Entails.of_eq (zeros_eq (F := F) c).symm) $$ [Hack Hp Hbar]
  · isplitl [Hack Hbar]
    · isplitl [Hbar] <;> iassumption
    iexact Hp
  imod (show iprop((bigSep Finset.univ fun k : CK => zero (F := F) c (csem k)) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  unfold ghost
  isplitl [Hinv]; · iexact Hinv
  isplitl [Hr]; · iexact Hr
  isplitl [Hat Htok]
  · isplitl [Hat]; · iexact Hat
    iapply (dealt_pay (F := F) c); iexact Htok
  isplitl [Hin] <;> iassumption

/-- The invariants of all devices handed to each. -/
theorem regroup :
    (bigSep Finset.univ fun c : Dev nD => iprop((bigSep Finset.univ fun k => iprop(∃ κ : ℕ, cellInv ER (Rd m) κ (kcell (c, k))))
          ∗ (bigSep Finset.univ fun k : CK => reached ER (kcell (c, k)) 0)
          ∗ ghost (F := F) c ∗ inZero (F := F) c ∗ outZero (F := F) c) : sProp 𝕄)
      ⊢ bigSep Finset.univ (G' m) := by
  rw [bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, #HR, Hg⟩
  ihave HK := (BI.bigSep_exists_pi Finset.univ (fun (ck : Dev nD × CK) (κ : ℕ) => (cellInv ER (Rd m) κ (kcell ck) : sProp 𝕄))) $$ HI
  icases HK with ⟨%K, #HI⟩
  iapply (bigSep_with_persistent (R := recs m K) (Φ := fun c : Dev nD => iprop(ghost (F := F) c ∗ inZero (F := F) c ∗ outZero (F := F) c)) (Ψ := G' m)
    fun c _ => by
      unfold G'
      iintro ⟨H, Hg⟩
      isplitl [H]; · iexists K; iexact H
      iexact Hg)
  isplitr
  · unfold recs; isplitl; · iexact HI
    iexact HR
  · iexact Hg

/-- The step on all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What all devices together owe a device's cell. -/
def dueK (c : Dev nD) : CK → ℕ
  | .inl false => 7
  | .inl true => 7 - c.val
  | .inr (false, _) => 0
  | .inr (true, j) => if j < c then N else 0

/-- A debt to one cell, seen at another. -/
theorem tally_k (a b : Dev nD × CK) (n : ℕ) : (tallyAt (kcell a) () n : CellTallies nD τ sig Unit) (kcell b) () = n * (if b = a then 1 else 0) := by
  rw [tallyAt_apply]
  by_cases h : b = a
  · subst h; rw [if_pos ⟨rfl, rfl⟩, if_pos rfl, Nat.mul_one]
  · rw [if_neg fun hh => h (kcell_injective hh.1), if_neg h, Nat.mul_zero]

/-- A sum of debts, seen at a cell. -/
theorem tally_sum (P : Finset (Dev nD)) (f : Dev nD → Dev nD × CK) (n : ℕ) (b : Dev nD × CK) :
    (∑ q ∈ P, (tallyAt (kcell (f q)) () n : CellTallies nD τ sig Unit)) (kcell b) () = n * ∑ q ∈ P, (if b = f q then 1 else 0) := by
  rw [Finset.sum_apply, Finsupp.finset_sum_apply, Finset.mul_sum]
  exact Finset.sum_congr rfl fun q _ => tally_k _ _ _

/-- What all devices owe a cell at launch is what the cell is due. -/
theorem owed_all (c : Dev nD) (k : CK) : ∑ d : Dev nD, O₀ d (kcell (c, k)) () = dueK c k := by
  have h (d : Dev nD) : O₀ d (kcell (c, k)) () = N * (∑ q ∈ after d, (if (c, k) = (q, (.inr (true, d) : CK)) then 1 else 0))
      + ((∑ q ∈ before d, (if (c, k) = (q, (.inl true : CK)) then 1 else 0)) + (∑ q ∈ others d, (if (c, k) = (q, (.inl false : CK)) then 1 else 0))) := by
    unfold O₀ recvDebt ackDebt barDebt
    rw [Pi.add_apply, Finsupp.add_apply, Pi.add_apply, Finsupp.add_apply, Nat.add_assoc]
    have h1 := tally_sum (after d) (fun q => (q, (.inr (true, d) : CK))) N (c, k)
    have h2 := tally_sum (before d) (fun q => (q, (.inl true : CK))) 1 (c, k)
    have h3 := tally_sum (others d) (fun q => (q, (.inl false : CK))) 1 (c, k)
    rw [Nat.one_mul] at h2 h3
    rw [← h1, ← h2, ← h3]
  rw [Finset.sum_congr rfl fun d _ => h d, Finset.sum_add_distrib, ← Finset.mul_sum]
  have ha : ∀ (c : Dev nD) (k : CK), (∑ d : Dev nD, ∑ q ∈ after d, (if (c, k) = (q, (.inr (true, d) : CK)) then 1 else 0))
      = (match k with | .inr (true, j) => if j < c then 1 else 0 | _ => 0 : ℕ) := by decide +kernel
  have hb : ∀ (c : Dev nD) (k : CK), (∑ d : Dev nD, ((∑ q ∈ before d, (if (c, k) = (q, (.inl true : CK)) then 1 else 0)) + (∑ q ∈ others d, (if (c, k) = (q, (.inl false : CK)) then 1 else 0))))
      = (match k with | .inl false => 7 | .inl true => 7 - c.val | _ => 0 : ℕ) := by decide +kernel
  rw [ha, hb]
  generalize hn : N = n
  unfold dueK
  rcases k with (_ | _) | ⟨_ | _, j⟩
  · exact Nat.zero_add _ ▸ rfl
  · exact Nat.zero_add _ ▸ rfl
  · rfl
  · dsimp only
    rw [hn]
    split <;> simp

/-- A cell's launch credit. -/
theorem launch_k (c : Dev nD) (k : CK) :
    tallyOn (kcell (c, k)) (launchCredit (Pipeline.owing O₀) 0 (kcell (c, k))) = (tallyAt (kcell (c, k)) () (dueK c k) : CellTallies nD τ sig Unit) := by
  unfold tallyAt; refine congrArg _ (Finsupp.ext fun u => ?_); cases u
  rw [Pipeline.launchCredit_owing, Finsupp.single_eq_same, owed_all]

omit [FloatOps F] in
/-- A device's credits at launch. -/
theorem creds_intro (c : Dev nD) : (Pipeline.launchCred O₀ c : sProp 𝕄) ⊢ creds (F := F) c := by
  have h1 : (Pipeline.launchCred O₀ c : sProp 𝕄) ⊢ bigSep Finset.univ (fun k : CK => (cred (tallyAt (kcell (c, k)) () (dueK c k)) : sProp 𝕄)) := by
    unfold Pipeline.launchCred
    refine (bigSep_subset (Finset.subset_univ (Finset.univ.map ⟨csem, csem_injective⟩))).trans ?_
    rw [bigSep_map]
    exact bigSep_mono fun k _ => Entails.of_eq (congrArg cred (launch_k c k))
  refine h1.trans ?_
  rw [bigSep_CK]
  unfold creds
  iintro ⟨⟨Hb, Ha⟩, -, Hr⟩
  isplitl [Hb]; · iexact Hb
  isplitl [Ha]; · iexact Ha
  have hr : bigSep Finset.univ (fun j : Dev nD => (cred (tallyAt (kcell (c, .inr (true, j))) () (dueK c (.inr (true, j)))) : sProp 𝕄))
      ⊢ bigSep (before c) (fun j => cred (tallyAt (recvCell c j) () N)) :=
    (bigSep_subset (Finset.subset_univ (before c))).trans (Entails.of_eq (bigSep_congr fun j hj => by
      rw [show dueK c (.inr (true, j)) = N from if_pos (Finset.mem_filter.mp hj).2]))
  iapply hr
  iexact Hr

/-! ## The run -/

/-- What device `c`'s run starts from, beside the scratch buffers. -/
def start (c : Dev nD) : sProp 𝕄 :=
  iprop(levAts L lv ∗ G' m c ∗ creds (F := F) c ∗ held c xM (xb m c) ∗ ∃ f, held (F := F) c oM f)
/-- What device `c` holds before the body, -/
def Φ₀ (c : Dev nD) : sProp 𝕄 := iprop(start m c ∗ scratch (F := F) c)
/-- What is read at the end. -/
def Y (c : Dev nD) : sProp 𝕄 := iprop(unscopedSems0 c ∗ held c xM (xb m c) ∗ ∃ f, ⌜Res m c f⌝ ∗ held c oM f)
/-- and after it. -/
def Φ₁ (c : Dev nD) : sProp 𝕄 :=
  iprop(held c xM (xb m c) ∗ (∃ f, ⌜Res m c f⌝ ∗ held c oM f) ∗ scratch (F := F) c
    ∗ inZero (F := F) c ∗ outZero (F := F) c ∗ bigSep Finset.univ (fun k => zero (F := F) c (csem k)))

/-- The run's data: no windows; the body leads from the start to the end and pays all debts. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 4000 in
/-- The body's obligation. -/
theorem body_obligation (c : Dev nD) : BodyObligation (dats (F := F) m 0 c) (defs₀ (F := F)) 𝒱₀ () Set.univ := fun t => by
  rw [fin_N0 t]
  have hW (Ψ : Fin cfg0.W → sProp 𝕄) : bigSep Finset.univ Ψ = iprop(emp) := bigSep_univ_eq_bigSepL [] (by decide) (by decide) Ψ
  rw [hW, hW]
  show iprop(Φ₀ m c ∗ (dats m 0 c).owesAt () t0_0.castSucc ∗ emp) ⊢ wp frame (wpE (defs₀ (F := F)) 𝒱₀ c none) Set.univ (onArgs (cc0_body (F := F)))
    (fun _ => iprop(Φ₁ m c ∗ (dats m 0 c).owesAt () t0_0.succ ∗ emp))
  unfold Φ₀ start G' Dat.owesAt Pipeline.owesWithin
  iintro ⟨⟨⟨Hlev, ⟨⟨%K, HR⟩, Hg, Hin, Hout⟩, Hc, Hx, Ho⟩, Hs⟩, ⟨%W, %hW, HO⟩, -⟩
  iapply (body m K c) $$ [Hlev HR Hg Hin Hout Hc Hx Ho Hs HO]
  · unfold bodyPre
    isplitl [HR]; · iexact HR
    isplitl [Hlev]; · iexact Hlev
    isplitl [HO]; · iexists W; iexact HO
    isplitl [Hg]; · iexact Hg
    isplitl [Hc]; · iexact Hc
    isplitl [Hx]; · iexact Hx
    isplitl [Ho]; · iexact Ho
    isplitl [Hs]; · iexact Hs
    isplitl [Hin] <;> iassumption
  unfold bodyPost Φ₁
  iintro ⟨⟨%W', HO⟩, Hrest⟩
  isplitl [Hrest]; · iexact Hrest
  isplitl [HO]
  · iexists W'
    isplitr; · ipureintro; exact fun _ _ => Or.inl trivial
    iexact HO
  iempintro

/-- There is no window whose share could differ. -/
theorem share_eq (c : Dev nD) (w : Fin cfg0.W) : (dats m 0 c).share w = fullShare := w.elim0

/-- What a device starts from, made of what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_eq_of_list (win := cfg0.spec) (c := c) Pipeline.Prefetch.none (fun b => m ((c : Thread nD τ).loc b)) [main_arg0, main_v1] (by decide) (by decide)]
  show iprop((held c xM (xb m c) ∗ held c oM (m ((c : Thread nD τ).loc main_v1))) ∗ levAts L lv ∗ Pipeline.launchCred O₀ c ∗ prngReg c (ρ c) ∗ G' m c) ⊢ _
  iintro ⟨⟨Hx, Ho⟩, Hlev, Hcr, -, HG⟩
  ihave Hc := (creds_intro (F := F) c) $$ Hcr
  imodintro
  unfold start
  isplitl
  · isplitl [Hlev]; · iexact Hlev
    isplitl [HG]; · iexact HG
    isplitl [Hc]; · iexact Hc
    isplitl [Hx]; · iexact Hx
    iexists _; iexact Ho
  · iempintro

/-- The start and the scratch buffers are what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What the body ends in gives what is read at the end, the semaphores at zero and the scratch buffers. -/
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y scratch
  rw [unscopedSems0_eq, zeros_eq]
  iintro ⟨Hx, Ho, Hs, Hin, Hout, ⟨Hb, Ha⟩, Hp⟩
  isplitl [Hb Hx Ho]
  · isplitl [Hb]; · iexact Hb
    isplitl [Hx] <;> iassumption
  isplitr [Hs]
  · isplitl [Hin]; · iexact Hin
    isplitl [Hout]; · iexact Hout
    isplitl [Ha] <;> iassumption
  iexact Hs

/-- There is no window to wait for. -/
theorem waits (c : Dev nD) : (levAts L lv : sProp 𝕄) ⊢ Pipeline.cellsWaits cfgs (dats m) () 0 c :=
  Pipeline.cellsWaits_intro cfgs (dats m) () 0 c fun w _ _ => w.elim0

/-- What the run ends in on device `c`. -/
def QC (c : Dev nD) (s : MemSt nD τ sig (Elt F)) : Prop :=
  s.mem ((c : Thread nD τ).loc main_arg0) = m ((c : Thread nD τ).loc main_arg0) ∧ Res m c (s.mem ((c : Thread nD τ).loc main_v1))

/-- What is held at the end tells the memory at the end. -/
theorem read_end (c : Dev nD) (s' : Phys nD τ sig (Elt F)) :
    iprop(Y m c ∗ emp ∗ SI s') ⊢ |={Set.univ}=> iprop(⌜QC m c s'.mem ∧ ∀ sm : SemLoc sig, sm.isScoped .tc = false → s'.mem.sem ((c.tc : Thread nD τ), sm) = 0⌝ ∗ (SI s' : sProp 𝕄)) := by
  unfold Y
  iintro ⟨⟨Hu, Hx, ⟨%f, %hf, Ho⟩⟩, -, HSI⟩
  icombine HSI Hx gives %hx
  icombine HSI Ho gives %ho
  imod (Pipeline.unscopedSems0_read (X := unscopedSems0 c) (c := c) fupd_intro s') $$ [Hu HSI] with ⟨%h, HSI⟩
  · isplitl [Hu] <;> iassumption
  imodintro
  isplitr
  · ipureintro
    refine ⟨⟨Buf.eq_of_forall_mem_univ hx, ?_⟩, h⟩
    have e : s'.mem.mem ((c : Thread nD τ).loc main_v1) = f := Buf.eq_of_forall_mem_univ ho
    rw [e]; exact hf
  iexact HSI

set_option maxRecDepth 8000 in
/-- From any memory with all counters at zero, every fair run of the eight devices ends, every device's argument as it
    was, its result's buffer at the running sums' blocks, and every counter at zero. -/
theorem run_main : θ_run defs (onTc (τ := τ) (main (F := F))) (s₀ m ρ) (fun r => (∀ c, QC m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show BI.own ((embR : Emb (UB × Counters) (MT nD τ sig Unit (Elt F) ℕ UU ℕ)) (initOf cells toks, 1)) ⊢ BI.own (ER (initOf cells toks)) from
        BI.Entails.refl _) $$ HX
      imod (fund_cells m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => QC m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.KernelIdeal.Scan
-- ==== Proof.Prefix.lean ====
/-
# Prefix sums over the extended reals

The reference's window sum read at an index is the sum of a prefix of the column.
-/
module

public import proofs.«01_k».proof.Proof.Gen.ReferenceIdeal.Run
public import Idealize.ShloMosaic.Lib.MatmulPlain
public import Idealize.ShloMosaic.Lib.ValueIdx
public import Idealize.ShloMosaic.Lib.Routing.OpsOne

@[expose] public section

noncomputable section

namespace Cert.ReferenceIdeal.Scan

open Cert.ReferenceIdeal Cert.ReferenceIdeal.Gen
open Idealize.ShloMosaic Idealize.ShloMosaic.ValueIdx
open Idealize.ShloMosaic.Routing (shape2 numel_col symm_col)

/-- The sum of the first `n` entries of a column. -/
def psum (f : ℕ → EReal) (n : ℕ) : EReal := ∑ r ∈ Finset.range n, f r

/-- A prefix, and the entries after it. -/
theorem psum_add (f : ℕ → EReal) (a b : ℕ) : psum f (a + b) = psum f a + ∑ r ∈ Finset.range b, f (a + r) :=
  Finset.sum_range_add f a b

/-- The empty prefix. -/
theorem psum_zero (f : ℕ → EReal) : psum f 0 = 0 := Finset.sum_range_zero f

/-- Column `d` of the whole array, past its end zero. -/
def col (X : FVec Ideal S16384x1024 .f32) (d : Fin 1024) (r : ℕ) : EReal := if h : r < 16384 then X (ix2 ⟨r, h⟩ d) else 0

/-- Adding up along a list from a start is the start and the sum over the positions. -/
theorem foldl_add {N : ℕ} (g : Fin N → EReal) (v : EReal) :
    (List.finRange N).foldl (fun r n => r + g n) v = v + ∑ n, g n := by
  have key : ∀ (l : List (Fin N)) (v : EReal), l.foldl (fun r n => r + g n) v = v + (l.map g).sum := by
    intro l
    induction l with
    | nil => intro v; exact (add_zero v).symm
    | cons a l ih => intro v; rw [List.foldl_cons, ih, List.map_cons, List.sum_cons, add_assoc]
  rw [key, ← List.ofFn_eq_map, List.sum_ofFn]

/-- The window that ends at entry `j` of a column padded below by `M` zeros sums the prefix up to `j`. -/
theorem window_sum (f : ℕ → EReal) (M j : ℕ) (hj : j ≤ M) :
    (∑ n ∈ Finset.range (M + 1), if M ≤ j + n then f (j + n - M) else 0) = psum f (j + 1) := by
  rw [show M + 1 = (M - j) + (j + 1) by omega, Finset.sum_range_add, Finset.sum_eq_zero, zero_add]
  · refine Finset.sum_congr rfl fun n _ => ?_
    rw [if_pos (by omega), show j + (M - j + n) - M = n by omega]
  · intro n hn
    have h := Finset.mem_range.mp hn
    exact if_neg (by omega)

section Window
variable {R M C : ℕ}

/-- A window position of a column as high as the array: its row is its number, its column the first. -/
theorem pos_row (n : Fin (shape2 R 1).numel) : ((shape2 R 1).rowMajor.symm n 0).val = n.val := by rw [symm_col]; rfl
/-- A position in a window of one column is in column 0. -/
theorem pos_col (n : Fin (shape2 R 1).numel) : ((shape2 R 1).rowMajor.symm n 1).val = 0 := by rw [symm_col]; rfl

/-- The position is inside the array once the window has come down to it. -/
theorem inside_iff (hR : M + 1 = R) (j : Fin R) (d : Fin C) (n : Fin (shape2 R 1).numel) :
    (∀ a, (![M, 0] : Fin 2 → ℕ) a ≤ ((ix2 j d) a).val * (![1, 1] : Fin 2 → ℕ) a + ((shape2 R 1).rowMajor.symm n a).val
      ∧ ((ix2 j d) a).val * (![1, 1] : Fin 2 → ℕ) a + ((shape2 R 1).rowMajor.symm n a).val - (![M, 0] : Fin 2 → ℕ) a < (shape2 R C).size a)
      ↔ M ≤ j.val + n.val := by
  have hn : n.val < R := (n.cast (numel_col _)).isLt
  have hj := j.isLt
  have hd := d.isLt
  constructor
  · intro h
    have h0 : M ≤ j.val * 1 + ((shape2 R 1).rowMajor.symm n 0).val := (h 0).1
    rw [pos_row] at h0
    omega
  · intro h a
    match a with
    | ⟨0, _⟩ =>
      show M ≤ j.val * 1 + ((shape2 R 1).rowMajor.symm n 0).val ∧ j.val * 1 + ((shape2 R 1).rowMajor.symm n 0).val - M < R
      rw [pos_row]
      omega
    | ⟨1, _⟩ =>
      show 0 ≤ d.val * 1 + ((shape2 R 1).rowMajor.symm n 1).val ∧ d.val * 1 + ((shape2 R 1).rowMajor.symm n 1).val - 0 < C
      rw [pos_col]
      omega

/-- A window sum over whole columns read at an entry: the prefix of its column up to its row. -/
theorem window_at (hR : M + 1 = R) (X : (shape2 R C).Idx → EReal) (f : ℕ → EReal) (d : Fin C)
    (hf : ∀ i : Fin R, f i.val = X (ix2 i d)) (z : (⟨0, ![]⟩ : Shape).Idx → EReal) (hz : ∀ i, z i = 0)
    (h : (shape2 R C).ReduceWindows (![R, 1] : Fin 2 → ℕ) ![1, 1] ![M, 0] ![0, 0] (shape2 R C)) (hu : 0 < (⟨0, ![]⟩ : Shape).numel) (j : Fin R) :
    Host.reduceWindow (· + ·) ![R, 1] ![1, 1] ![M, 0] ![0, 0] X z h hu (ix2 j d) = psum f (j.val + 1) := by
  have hj := j.isLt
  unfold Host.reduceWindow
  refine (foldl_add _ _).trans ?_
  rw [hz, zero_add, ← window_sum f M j.val (by omega)]
  refine (Finset.sum_congr rfl fun n _ => ?_).trans
    ((Fin.sum_univ_eq_sum_range (fun k : ℕ => if M ≤ j.val + k then f (j.val + k - M) else 0) (shape2 R 1).numel).trans
      (by rw [numel_col, hR]))
  have hn : n.val < R := (n.cast (numel_col _)).isLt
  by_cases hm : M ≤ j.val + n.val
  · refine (dif_pos ((inside_iff hR j d n).2 hm)).trans (Eq.trans ?_ (if_pos hm).symm)
    refine Eq.trans ?_ (hf ⟨j.val + n.val - M, by omega⟩).symm
    refine congrArg X (funext fun a => Fin.ext ?_)
    match a with
    | ⟨0, _⟩ =>
      show j.val * 1 + ((shape2 R 1).rowMajor.symm n 0).val - M = j.val + n.val - M
      rw [pos_row, Nat.mul_one]
    | ⟨1, _⟩ =>
      show d.val * 1 + ((shape2 R 1).rowMajor.symm n 1).val - 0 = d.val
      rw [pos_col]
      omega
  · exact (dif_neg fun h => hm ((inside_iff hR j d n).1 h)).trans (if_neg hm).symm

end Window

/-- The reference read at an entry: the prefix of its column up to its row. -/
theorem reference_at (X : FVec Ideal S16384x1024 .f32) (j : Fin 16384) (d : Fin 1024) :
    Host.reduceWindowAdd ![16384, 1] ![1, 1] ![16383, 0] ![0, 0] X (broadcastInDim S_ ![] bcast_S_S_ (constant S_ .f32 0x00000000#32))
      reduceWindows_S16384x1024_S16384x1024_w16384s1p16383_0_w1s1p0_0 h_S_ (ix2 j d) = psum (col X d) (j.val + 1) := by
  have e := window_at (M := 16383) (R := 16384) (by norm_num) X (col X d) d (fun i => dif_pos i.isLt)
    (fun _ => (broadcastInDim S_ ![] bcast_S_S_ (constant (F := Ideal) S_ .f32 0x00000000#32)) (Shape.Idx.first h_S_))
    (fun _ => Idealize.ShloMosaic.Ideal.ofBits_zero_f32)
    reduceWindows_S16384x1024_S16384x1024_w16384s1p16383_0_w1s1p0_0 (by decide) j
  unfold Host.reduceWindowAdd
  rw [Ideal.hostReduceWindowAdd_def]
  unfold Ideal.hostReduceWindowAdd
  exact e

end Cert.ReferenceIdeal.Scan

end
-- ==== Proof.Value.lean ====
/-
# The kernel's result over the extended reals

The result read at an entry is the prefix of its column up to its row: the triangle's product is the running sum inside
a block, the totals received are the prefix before the device's rows, and each block carries on from the last row of the
block before it.
-/
module

public import proofs.«01_k».proof.Proof.KernelIdealLaunch
public import proofs.«01_k».proof.Proof.Prefix
public import Idealize.ShloMosaic.Lib.IdealHost
public import Idealize.ShloMosaic.Lib.Pipeline.Value
public import Idealize.ShloMosaic.Lib.WordCmp

@[expose] public section

noncomputable section

namespace Cert.KernelIdeal.Scan

open Cert.KernelIdeal Cert.KernelIdeal.Gen
open Idealize.ShloMosaic Idealize.ShloMosaic.ValueIdx
open Idealize.ShloMosaic.TcCoe
open Cert.ReferenceIdeal.Scan (psum psum_add psum_zero)

/-! ## The two products -/

/-- The zero accumulator read at an entry. -/
theorem acc_zero {s : Shape} (i : s.Idx) : constant (F := Ideal) s .f32 0x00000000#32 i = (0 : EReal) := Idealize.ShloMosaic.Ideal.ofBits_zero_f32

/-- A column's total: the sum of its entries. -/
theorem tot_at (X : FVec Ideal S2048x1024 .f32) (d : Fin 1024) : k0_pay1 X (ix2 (0 : Fin 1) d) = ∑ i : Fin 2048, X (ix2 i d) := by
  unfold k0_pay1
  rw [shapeCast_self]
  refine (Ideal.matmul_plain_apply (M := 1) (K := 2048) (N := 1024) none _ _ _ (0 : Fin 1) d).trans ?_
  rw [acc_zero, zero_add]
  refine Finset.sum_congr rfl fun k _ => ?_
  have e : broadcast (⟨2, ![1, 2048]⟩ : Shape) (Scalar.ofBits (F := Ideal) .f32 0x3F800000#32) (ix2 (0 : Fin 1) k) = (1 : EReal) :=
    Idealize.ShloMosaic.Ideal.ofBits_one_f32
  exact (congrArg (· * X (ix2 k d)) e).trans (one_mul _)

/-- The triangle: ones on and below the diagonal. -/
theorem tri_at (i k : Fin 256) : k0_pay2 (F := Ideal) (ix2 i k) = if k.val ≤ i.val then (1 : EReal) else 0 := by
  have hi := i.isLt
  have hk := k.isLt
  unfold k0_pay2
  have e : cmpi .sge (iota .tc S256x256 32 [0] iota_S256x256_d0_w32) (iota .tc S256x256 32 [1] iota_S256x256_d1_w32) (ix2 i k)
      = BitVec.ofBool (decide (k.val ≤ i.val)) := by
    show IntOp.cmpi .sge (iota .tc S256x256 32 [0] iota_S256x256_d0_w32 (ix2 i k)) (iota .tc S256x256 32 [1] iota_S256x256_d1_w32 (ix2 i k)) = _
    rw [iota_single_apply, iota_single_apply]
    exact WordCmp.cmpi_sge_ofNat (by show i.val < 2 ^ 31; omega) (by show k.val < 2 ^ 31; omega)
  show ((((extui 32 (cmpi .sge (iota .tc S256x256 32 [0] iota_S256x256_d0_w32) (iota .tc S256x256 32 [1] iota_S256x256_d1_w32)) natLt_1_32 (ix2 i k)).toInt : ℤ) : ℝ) : EReal) = _
  rw [extui_apply, e]
  by_cases h : k.val ≤ i.val
  · rw [if_pos h, decide_eq_true h, show ((BitVec.ofBool true).setWidth 32).toInt = 1 from by decide]
    norm_num
  · rw [if_neg h, decide_eq_false h, show ((BitVec.ofBool false).setWidth 32).toInt = 0 from by decide]
    norm_num

/-- The triangle's product with a block: the running sums of its columns. -/
theorem run_at (Y : FVec Ideal S256x1024 .f32) (g : ℕ → EReal) (d : Fin 1024) (hg : ∀ k : Fin 256, Y (ix2 k d) = g k.val) (i : Fin 256) :
    matmul dot_S256x256_S256x1024_S256x1024_1_0_0_1_n_n none (k0_pay2 (F := Ideal)) Y (constant S256x1024 .f32 0x00000000#32) (ix2 i d)
      = psum g (i.val + 1) := by
  have hi := i.isLt
  refine (Ideal.matmul_plain_apply (M := 256) (K := 256) (N := 1024) none _ _ _ i d).trans ?_
  rw [acc_zero, zero_add]
  have e : ∀ k : Fin 256, k0_pay2 (F := Ideal) (ix2 i k) * Y (ix2 k d) = (fun k : ℕ => if k < i.val + 1 then g k else 0) k.val := by
    intro k
    rw [tri_at, hg]
    by_cases h : k.val ≤ i.val
    · rw [if_pos h, one_mul]; exact (if_pos (by omega)).symm
    · rw [if_neg h, zero_mul]; exact (if_neg (by omega)).symm
  refine (Finset.sum_congr rfl fun k _ => e k).trans ?_
  rw [Fin.sum_univ_eq_sum_range (fun k : ℕ => if k < i.val + 1 then g k else 0) 256, ← Finset.sum_filter]
  refine Finset.sum_congr (Finset.ext fun k => ?_) fun _ _ => rfl
  rw [Finset.mem_filter, Finset.mem_range, Finset.mem_range]
  omega

/-! ## The shape operations -/

/-- A row under every row of a block. -/
theorem under_at (v : FVec Ideal S1x1024 .f32) (i : Fin 256) (d : Fin 1024) :
    broadcastTo S256x1024 v broadcasts_S1x1024_S256x1024 (ix2 i d) = v (ix2 (0 : Fin 1) d) :=
  broadcastTo_apply v _ _ (ix2 (0 : Fin 1) d) (fun a => match a with | ⟨0, _⟩ => rfl | ⟨1, _⟩ => rfl)

/-- A block with a leading axis; -/
theorem lead_at (v : FVec Ideal S256x1024 .f32) (i : Fin 256) (d : Fin 1024) :
    shapeCast S1x256x1024 v shapeCasts_S256x1024_S1x256x1024 (ix3 (0 : Fin 1) i d) = v (ix2 i d) :=
  (shapeCast_addUnit_apply ![256, 1024] v shapeCasts_S256x1024_S1x256x1024 (ix3 (0 : Fin 1) i d)).trans
    (congrArg v (funext fun a => match a with | ⟨0, _⟩ => rfl | ⟨1, _⟩ => rfl))
/-- and without it. -/
theorem sq_at (o : FVec Ideal S1x256x1024 .f32) (i : Fin 256) (d : Fin 1024) : sq o (ix2 i d) = o (ix3 (0 : Fin 1) i d) :=
  (shapeCast_dropUnit_apply ![256, 1024] o squeezes_S1x256x1024_S256x1024.numel_eq (ix2 i d)).trans
    (congrArg o (funext fun a => match a with | ⟨0, _⟩ => rfl | ⟨1, _⟩ => rfl | ⟨2, _⟩ => rfl))

/-- A row without its leading axis. -/
theorem row_at (v : FVec Ideal S1x1x1024 .f32) (d : Fin 1024) :
    shapeCast S1x1024 v shapeCasts_S1x1x1024_S1x1024 (ix2 (0 : Fin 1) d) = v (ix3 (0 : Fin 1) (0 : Fin 1) d) :=
  (shapeCast_dropUnit_apply ![1, 1024] v shapeCasts_S1x1x1024_S1x1024 (ix2 (0 : Fin 1) d)).trans
    (congrArg v (funext fun a => match a with | ⟨0, _⟩ => rfl | ⟨1, _⟩ => rfl | ⟨2, _⟩ => rfl))

/-- A block's last row. -/
theorem lastRow_at (o : FVec Ideal S1x256x1024 .f32) (d : Fin 1024) :
    lastRow o (ix3 (0 : Fin 1) (0 : Fin 1) d) = o (ix3 (0 : Fin 1) (⟨255, by decide⟩ : Fin 256) d) := by
  refine congrArg o (funext fun a => Fin.ext ?_)
  match a with
  | ⟨0, _⟩ => rfl
  | ⟨1, _⟩ => rfl
  | ⟨2, _⟩ => show 0 + 1 * d.val = d.val; omega

/-! ## The blocks -/

/-- The blocks after the first two: the running sums of their rows and the last row of the block before. -/
theorem pay11_at (r : FVec Ideal S1x1x1024 .f32) (Y : FVec Ideal S256x1024 .f32) (i : Fin 256) (d : Fin 1024) :
    k0_pay11 (k0_pay2 (F := Ideal)) r Y (ix3 (0 : Fin 1) i d)
      = matmul dot_S256x256_S256x1024_S256x1024_1_0_0_1_n_n none (k0_pay2 (F := Ideal)) Y (constant S256x1024 .f32 0x00000000#32) (ix2 i d)
        + r (ix3 (0 : Fin 1) (0 : Fin 1) d) := by
  unfold k0_pay11
  rw [lead_at, addf_apply, under_at, row_at]

/-- The second block, whose running sums were kept. -/
theorem pay10_at (r : FVec Ideal S1x1x1024 .f32) (Y : FVec Ideal S256x1024 .f32) (i : Fin 256) (d : Fin 1024) :
    k0_pay10 r Y (ix3 (0 : Fin 1) i d) = Y (ix2 i d) + r (ix3 (0 : Fin 1) (0 : Fin 1) d) := by
  unfold k0_pay10
  rw [lead_at, addf_apply, under_at, row_at]

/-- Every block read at an entry: the prefix of its column up to its row, when the first block is and the second's running
    sums are those of its rows. -/
theorem blk_at (c : Dev nD) (base : FVec Ideal S1x256x1024 .f32) (P1 : FVec Ideal S256x1024 .f32) (X : Buf (Elt Ideal) (xvM.view.loc (c : Thread nD τ)))
    (f : ℕ → EReal) (A : ℕ) (d : Fin 1024)
    (h0 : ∀ i : Fin 256, base (ix3 (0 : Fin 1) i d) = psum f (A + i.val + 1))
    (h1 : ∀ i : Fin 256, P1 (ix2 i d) = psum (fun k => f (A + 256 + k)) (i.val + 1))
    (hX : ∀ (b : Fin 8) (k : Fin 256), rowsB X b (ix2 k d) = f (A + 256 * b.val + k.val)) :
    ∀ (n : ℕ) (hn : n < 8) (i : Fin 256), blk base P1 (k0_pay2 (F := Ideal)) X n (ix3 (0 : Fin 1) i d) = psum f (A + 256 * n + i.val + 1)
  | 0, _, i => h0 i
  | 1, _, i => by
    show k0_pay10 (lastRow base) P1 _ = _
    rw [pay10_at, lastRow_at, h0, h1, add_comm]
    exact (psum_add f (A + 255 + 1) (i.val + 1)).symm.trans (congrArg (psum f) (by omega))
  | n + 2, hn, i => by
    show k0_pay11 _ (lastRow (blk base P1 _ X (n + 1))) (rowsB X (Fin.ofNat 8 (n + 2))) _ = _
    rw [pay11_at, lastRow_at, blk_at c base P1 X f A d h0 h1 hX (n + 1) (by omega), add_comm,
      run_at _ (fun k => f (A + 256 * (n + 2) + k)) d (fun k => (hX _ k).trans (by
        rw [show (Fin.ofNat 8 (n + 2)).val = n + 2 from Nat.mod_eq_of_lt hn]))]
    exact (congrArg (psum f · + psum (fun k => f (A + 256 * (n + 2) + k)) (i.val + 1))
      (show A + 256 * (n + 1) + 255 + 1 = A + 256 * (n + 2) by omega)).trans
      ((psum_add f (A + 256 * (n + 2)) (i.val + 1)).symm.trans (congrArg (psum f) (by omega)))

end Cert.KernelIdeal.Scan

end
-- ==== Proof.Result.lean ====
/-
# The two programs compute the same array

The kernel's result on device `c`, read at an entry, is the prefix of the whole column up to the entry's row of the whole
array; that is the reference's window sum there.
-/
module

public import proofs.«01_k».proof.Proof.Value

@[expose] public section

noncomputable section

namespace Cert.KernelIdeal.Scan

open Cert.KernelIdeal Cert.KernelIdeal.Gen
open Idealize.ShloMosaic Idealize.ShloMosaic.ValueIdx
open Idealize.ShloMosaic.TcCoe
open Cert.ReferenceIdeal.Scan (psum psum_add psum_zero)

variable (m : (ℓ : Loc nD τ sig) → Buf (Elt Ideal) ℓ)

/-! ## The totals of the earlier devices -/

/-- Whether a device comes after device `j`. -/
theorem later_bit : ∀ (c : Dev nD) (j : Fin 8), Scalar.cmpi .sgt (me c) (BitVec.ofNat 32 j.val) = BitVec.ofBool (decide (j.val < c.val)) := by
  decide +kernel

/-- The total of device `j`'s column. -/
def total (f : ℕ → EReal) (j : ℕ) : EReal := ∑ r ∈ Finset.range 2048, f (2048 * j + r)

/-- The totals of the first devices make up a prefix. -/
theorem totals (f : ℕ → EReal) (c : ℕ) : ∑ j ∈ Finset.range c, total f j = psum f (2048 * c) := by
  induction c with
  | zero => exact Finset.sum_range_zero _
  | succ c ih => rw [Finset.sum_range_succ, ih]; exact (psum_add f (2048 * c) 2048).symm

/-- The row of column totals of a device's rows, which are rows `2048 * j` and on of the whole array. -/
theorem total_at (X : FVec Ideal S2048x1024 .f32) (f : ℕ → EReal) (d : Fin 1024) (j : ℕ)
    (hf : ∀ i : Fin 2048, X (ix2 i d) = f (2048 * j + i.val)) : k0_pay1 (F := Ideal) X (ix2 (0 : Fin 1) d) = total f j := by
  rw [tot_at]
  refine (Finset.sum_congr rfl fun i _ => hf i).trans ?_
  exact Fin.sum_univ_eq_sum_range (fun r => f (2048 * j + r)) 2048

/-- Of all the rows received, the ones picked are those of the devices before. -/
theorem picked (f : ℕ → EReal) (c : ℕ) (hc : c < 8) :
    (∑ j ∈ Finset.range 7, if j < c then total f j else 0) = psum f (2048 * c) := by
  rw [← totals, ← Finset.sum_filter]
  refine Finset.sum_congr (Finset.ext fun j => ?_) fun _ _ => rfl
  rw [Finset.mem_filter, Finset.mem_range, Finset.mem_range]
  omega

/-- What is added for device `j`: its total if it comes before, else nothing. -/
theorem pick_at (c : Dev nD) (g : Buf (Elt Ideal) (rcvM.view.loc (c : Thread nD τ))) (hg : Landed m c g) (f : ℕ → EReal) (d : Fin 1024)
    (hf : ∀ (c : Dev nD) (i : Fin 2048), xb m c (ix2 i d) = f (2048 * c.val + i.val))
    (j : ℕ) (hj : j < 8) (h : ∀ a, (![j, 0, 0] : Fin 3 → ℕ) a + S1x1x1024.size a ≤ S8x1x1024.size a) :
    Scalar.select (Scalar.cmpi .sgt (me c) (BitVec.ofNat 32 j)) (shapeCast S1x1024 (rowAt c g j h) shapeCasts_S1x1x1024_S1x1024)
      (broadcast S1x1024 (Scalar.ofBits (F := Ideal) .f32 0x00000000#32)) (ix2 (0 : Fin 1) d) = if j < c.val then total f j else 0 := by
  rw [later_bit c ⟨j, hj⟩]
  by_cases hlt : j < c.val
  · rw [if_pos hlt, decide_eq_true hlt]
    refine (congrFun (hg ⟨j, hj⟩ hlt) (ix2 (0 : Fin 1) d)).trans ?_
    exact total_at (xb m ⟨j, hj⟩) f d j (hf ⟨j, hj⟩)
  · rw [if_neg hlt, decide_eq_false hlt]
    exact Idealize.ShloMosaic.Ideal.ofBits_zero_f32

/-- The first block: its running sums, and the prefix before the device's rows. -/
theorem base_at (c : Dev nD) (g : Buf (Elt Ideal) (rcvM.view.loc (c : Thread nD τ))) (hg : Landed m c g)
    (f1 : Buf (Elt Ideal) (pvM.view.loc (c : Thread nD τ))) (f : ℕ → EReal) (d : Fin 1024)
    (hf : ∀ (c : Dev nD) (i : Fin 2048), xb m c (ix2 i d) = f (2048 * c.val + i.val)) (i : Fin 256) :
    base c g f1 (me c) (k0_pay6 (F := Ideal)) (k0_pay7 (me c) (rowAt c g 0 inb_S8x1x1024_S1x1x1024_0_0_0)) (ix3 (0 : Fin 1) i d)
      = pvA f1 (ix2 i d) + psum f (2048 * c.val) := by
  unfold base k0_pay9 k0_pay8 k0_pay7 k0_pay6
  rw [lead_at, addf_apply, under_at]
  refine congrArg (pvA f1 (ix2 i d) + ·) ?_
  simp only [addf_apply]
  rw [pick_at m c g hg f d hf 0 (by decide), pick_at m c g hg f d hf 1 (by decide), pick_at m c g hg f d hf 2 (by decide),
    pick_at m c g hg f d hf 3 (by decide), pick_at m c g hg f d hf 4 (by decide), pick_at m c g hg f d hf 5 (by decide),
    pick_at m c g hg f d hf 6 (by decide), broadcast_apply,
    show (Scalar.ofBits (F := Ideal) .f32 0x00000000#32 : EReal) = 0 from Idealize.ShloMosaic.Ideal.ofBits_zero_f32,
    ← picked f c.val c.isLt]
  simp only [Finset.sum_range_succ, Finset.sum_range_zero]

/-! ## The windows read -/

/-- The rows of a block of `X`. -/
theorem rowsOf_at (X : FVec Ideal S2048x1024 .f32) (r : ℕ) (h : ∀ a, (![r, 0] : Fin 2 → ℕ) a + S256x1024.size a ≤ S2048x1024.size a)
    (k : Fin 256) (d : Fin 1024) (hr : r + k.val < 2048) : rowsOf X r h (ix2 k d) = X (ix2 ⟨r + k.val, hr⟩ d) := by
  refine congrArg X (funext fun a => Fin.ext ?_)
  match a with
  | ⟨0, _⟩ => show r + 1 * k.val = r + k.val; omega
  | ⟨1, _⟩ => show 0 + 1 * d.val = d.val; omega

/-- The running sums kept: the first half above the second. -/
def keptV (P Q : FVec Ideal S256x1024 .f32) : FVec Ideal S512x1024 .f32 := fun y =>
  if h : (y 0).val < 256 then P (ix2 ⟨(y 0).val, h⟩ ⟨(y 1).val, (y 1).isLt⟩)
  else Q (ix2 ⟨(y 0).val - 256, by have e : (y 0).val < 512 := (y 0).isLt; omega⟩ ⟨(y 1).val, (y 1).isLt⟩)

/-- Its first half. -/
theorem keptV_fst (P Q : FVec Ideal S256x1024 .f32) (y : S512x1024.Idx) (k : Fin 256) (d : Fin 1024) (h0 : (y 0).val = k.val)
    (h1 : (y 1).val = d.val) : keptV P Q y = P (ix2 k d) := by
  have hk := k.isLt
  refine (dif_pos (by omega)).trans (congrArg P ?_)
  rw [show (⟨(y 0).val, by omega⟩ : Fin 256) = k from Fin.ext h0, show (⟨(y 1).val, (y 1).isLt⟩ : Fin 1024) = d from Fin.ext h1]
/-- Its second half. -/
theorem keptV_snd (P Q : FVec Ideal S256x1024 .f32) (y : S512x1024.Idx) (k : Fin 256) (d : Fin 1024) (h0 : (y 0).val = 256 + k.val)
    (h1 : (y 1).val = d.val) : keptV P Q y = Q (ix2 k d) := by
  have hk := k.isLt
  refine (dif_neg (by omega)).trans (congrArg Q ?_)
  rw [show (⟨(y 0).val - 256, by omega⟩ : Fin 256) = k from Fin.ext (by show (y 0).val - 256 = k.val; omega),
    show (⟨(y 1).val, (y 1).isLt⟩ : Fin 1024) = d from Fin.ext h1]

/-- The two blocks stored there, the later one first. -/
abbrev keptL (P Q : FVec Ideal S256x1024 .f32) : List (View.Piece (Elt Ideal) S512x1024 .f32) :=
  [⟨Rect.unit (s := S512x1024) ![256, 0] S256x1024.size inb_S512x1024_S256x1024_256_0, Q⟩,
    ⟨Rect.unit (s := S512x1024) ![0, 0] S256x1024.size inb_S512x1024_S256x1024_0_0, P⟩]

/-- Each block agrees with the whole. -/
theorem kept_agree (P Q : FVec Ideal S256x1024 .f32) : ∀ p ∈ keptL P Q, ∀ x : p.1.shape.Idx, p.2 x = keptV P Q (p.1.emb x) := by
  intro p hp x
  rw [List.mem_cons, List.mem_singleton] at hp
  rcases hp with rfl | rfl
  · refine (congrArg Q (eq_ix2 x)).trans (keptV_snd P Q _ (x 0) (x 1) ?_ ?_).symm
    · show 256 + 1 * (x 0).val = _; omega
    · show 0 + 1 * (x 1).val = _; omega
  · refine (congrArg P (eq_ix2 x)).trans (keptV_fst P Q _ (x 0) (x 1) ?_ ?_).symm
    · show 0 + 1 * (x 0).val = _; omega
    · show 0 + 1 * (x 1).val = _; omega

/-- A buffer written by blocks which tile it and agree with `G`. -/
theorem kept_filled (c : Dev nD) (f1 : Buf (Elt Ideal) (pvM.view.loc (c : Thread nD τ))) (G : FVec Ideal S512x1024 .f32)
    (L : List (View.Piece (Elt Ideal) S512x1024 .f32)) (hG : ∀ p ∈ L, ∀ x : p.1.shape.Idx, p.2 x = G (p.1.emb x))
    (hT : View.Piece.tiled L ![256, 1024] = true) : pvM.view.writes (Elt Ideal) f1 L = G := by
  funext y
  exact View.read_writes_apply_of_pieces pvM.view f1 G L hG y (View.cover_of_tiled L _ hT y)

/-- Both halves stored. -/
theorem kept (c : Dev nD) (f1 : Buf (Elt Ideal) (pvM.view.loc (c : Thread nD τ))) (P Q : FVec Ideal S256x1024 .f32) :
    pvM.view.writes (Elt Ideal) (pvM.view.writes (Elt Ideal) f1 [⟨Rect.unit (s := S512x1024) ![0, 0] S256x1024.size inb_S512x1024_S256x1024_0_0, P⟩])
      [⟨Rect.unit (s := S512x1024) ![256, 0] S256x1024.size inb_S512x1024_S256x1024_256_0, Q⟩] = keptV P Q := by
  rw [← View.writes_append]
  exact kept_filled c f1 _ (keptL P Q) (kept_agree P Q) rfl

/-- The first half read back, -/
theorem pvA_at (c : Dev nD) (f1 : Buf (Elt Ideal) (pvM.view.loc (c : Thread nD τ))) (P Q : FVec Ideal S256x1024 .f32) (k : Fin 256) (d : Fin 1024) :
    pvA (c := c) (pvM.view.writes (Elt Ideal) (pvM.view.writes (Elt Ideal) f1 [⟨Rect.unit (s := S512x1024) ![0, 0] S256x1024.size inb_S512x1024_S256x1024_0_0, P⟩])
      [⟨Rect.unit (s := S512x1024) ![256, 0] S256x1024.size inb_S512x1024_S256x1024_256_0, Q⟩]) (ix2 k d) = P (ix2 k d) := by
  rw [kept]
  refine keptV_fst P Q _ k d ?_ ?_
  · show 0 + 1 * k.val = _; omega
  · show 0 + 1 * d.val = _; omega
/-- and the second. -/
theorem pvB_at (c : Dev nD) (f1 : Buf (Elt Ideal) (pvM.view.loc (c : Thread nD τ))) (P Q : FVec Ideal S256x1024 .f32) (k : Fin 256) (d : Fin 1024) :
    pvB (c := c) (pvM.view.writes (Elt Ideal) (pvM.view.writes (Elt Ideal) f1 [⟨Rect.unit (s := S512x1024) ![0, 0] S256x1024.size inb_S512x1024_S256x1024_0_0, P⟩])
      [⟨Rect.unit (s := S512x1024) ![256, 0] S256x1024.size inb_S512x1024_S256x1024_256_0, Q⟩]) (ix2 k d) = Q (ix2 k d) := by
  rw [kept]
  refine keptV_snd P Q _ k d ?_ ?_
  · show 256 + 1 * k.val = _; omega
  · show 0 + 1 * d.val = _; omega

/-! ## The result -/

/-- The result of device `c` at an entry: the prefix of the whole column up to its row there. -/
theorem res_at (c : Dev nD) (R : Buf (Elt Ideal) (oM.view.loc (c : Thread nD τ))) (hR : Res m c R) (f : ℕ → EReal) (d : Fin 1024)
    (hf : ∀ (c : Dev nD) (i : Fin 2048), xb m c (ix2 i d) = f (2048 * c.val + i.val)) (i : Fin 2048) :
    R (ix2 i d) = psum f (2048 * c.val + i.val + 1) := by
  obtain ⟨g, f1, hg, rfl⟩ := hR
  have hi := i.isLt
  have hx : ∀ (r : ℕ) (h) (k : Fin 256) (hr : r + k.val < 2048), rowsOf (xb m c) r h (ix2 k d) = f (2048 * c.val + r + k.val) := by
    intro r h k hr
    rw [rowsOf_at _ r h k d hr, hf]
    exact congrArg f (Nat.add_assoc _ _ _).symm
  refine (sq_at _ ⟨i.val % 256, Nat.mod_lt _ (by decide)⟩ d).trans ?_
  refine (blk_at c _ _ (xb m c) f (2048 * c.val) d ?_ ?_ ?_ (i.val / 256) (by omega) ⟨i.val % 256, Nat.mod_lt _ (by decide)⟩).trans
    (congrArg (psum f) (by show 2048 * c.val + 256 * (i.val / 256) + i.val % 256 + 1 = _; omega))
  · intro k
    have hk := k.isLt
    rw [base_at m c g hg _ f d hf k, pvA_at]
    unfold k0_pay3
    rw [shapeCast_self, run_at _ (fun r => f (2048 * c.val + r)) d (fun k => hx 0 _ k (by have := k.isLt; omega)), add_comm]
    exact (psum_add f (2048 * c.val) (k.val + 1)).symm
  · intro k
    rw [pvB_at]
    unfold k0_pay5 k0_pay4
    rw [shapeCast_self]
    exact run_at _ _ d (fun k => hx 256 _ k (by have := k.isLt; omega)) k
  · intro b k
    have hb := b.isLt
    exact hx (256 * b.val) (rows_inb b) k (by have := k.isLt; omega)

/-! ## Against the reference -/

/-- The reference's result of the argument `X`. -/
abbrev refV (X : FVec Ideal Cert.ReferenceIdeal.S16384x1024 .f32) : FVec Ideal Cert.ReferenceIdeal.S16384x1024 .f32 :=
  Host.reduceWindowAdd ![16384, 1] ![1, 1] ![16383, 0] ![0, 0] X
    (broadcastInDim Cert.ReferenceIdeal.S_ ![] Cert.ReferenceIdeal.Gen.bcast_S_S_ (constant Cert.ReferenceIdeal.S_ .f32 0x00000000#32))
    Cert.ReferenceIdeal.Gen.reduceWindows_S16384x1024_S16384x1024_w16384s1p16383_0_w1s1p0_0 Cert.ReferenceIdeal.Gen.h_S_

/-- Where entry `(i, d)` of device `c`'s block lies in the whole array. -/
theorem block_at (X : FVec Ideal Cert.ReferenceIdeal.S16384x1024 .f32) (c : Fin 8) (i : Fin 2048) (d : Fin 1024)
    (hr : 2048 * c.val + i.val < 16384) :
    (Layout.block ⟨2, ![2048, 1024]⟩ ⟨2, ![16384, 1024]⟩ 0 8 c X) (ix2 i d) = X (ix2 ⟨2048 * c.val + i.val, hr⟩ d) := by
  rw [Layout.block_apply]
  refine congrArg X (funext fun a => Fin.ext ?_)
  match a with
  | ⟨0, _⟩ => exact (Layout.idx_rows_val _ c (ix2 i d)).1.trans (by show c.val * 2048 + i.val = 2048 * c.val + i.val; omega)
  | ⟨1, _⟩ => exact (Layout.idx_rows_val _ c (ix2 i d)).2

/-- A column of the whole array, at a row of it. -/
theorem col_inside (X : FVec Ideal Cert.ReferenceIdeal.S16384x1024 .f32) (d : Fin 1024) (r : ℕ) (hr : r < 16384) :
    Cert.ReferenceIdeal.Scan.col X d r = X (ix2 ⟨r, hr⟩ d) := dif_pos hr

/-- If the devices hold the row blocks of `X`, device `c` ends with its row block of the reference's result. -/
theorem res_block (X : FVec Ideal Cert.ReferenceIdeal.S16384x1024 .f32)
    (hX : ∀ c : Dev nD, xb m c = Layout.block ⟨2, ![2048, 1024]⟩ ⟨2, ![16384, 1024]⟩ 0 8 c X)
    (c : Dev nD) (R : Buf (Elt Ideal) (oM.view.loc (c : Thread nD τ))) (hR : Res m c R) :
    R = Layout.block ⟨2, ![2048, 1024]⟩ ⟨2, ![16384, 1024]⟩ 0 8 c (refV X) := by
  have hb : ∀ (c : Dev nD) (i : Fin 2048), 2048 * c.val + i.val < 16384 := by
    intro c i
    have hc : c.val < 8 := c.isLt
    have := i.isLt
    omega
  have key : ∀ (i : Fin 2048) (d : Fin 1024), R (ix2 i d) = (Layout.block ⟨2, ![2048, 1024]⟩ ⟨2, ![16384, 1024]⟩ 0 8 c (refV X)) (ix2 i d) := by
    intro i d
    rw [block_at (refV X) c i d (hb c i)]
    refine (res_at m c R hR (Cert.ReferenceIdeal.Scan.col X d) d (fun c i => ?_) i).trans
      (Cert.ReferenceIdeal.Scan.reference_at X ⟨2048 * c.val + i.val, hb c i⟩ d).symm
    exact (congrFun (hX c) (ix2 i d)).trans ((block_at X c i d (hb c i)).trans (col_inside X d _ (hb c i)).symm)
  funext y
  rw [show y = ix2 (y 0) (y 1) from eq_ix2 y]
  exact key (y 0) (y 1)

end Cert.KernelIdeal.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Result
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed runs to its end, leaves its argument alone and every counter at zero. -/
theorem quiet_kernel : Cert.quiescent_Kernel (hKernel := Cert.Kernel.Gen.facts) := fun m g _ =>
  (θ_run _ _ _).mono (fun _ h => ⟨fun c => (h.1 c).1, h.2⟩) (Cert.Kernel.Scan.run_main (F := Bits) m g)

/-- The same of the kernel read at the extended reals. -/
theorem quiet_ideal : Cert.quiescent_KernelIdeal (hKernelIdeal := Cert.KernelIdeal.Gen.facts) := fun m g _ =>
  (θ_run _ _ _).mono (fun _ h => ⟨fun c => (h.1 c).1, h.2⟩) (Cert.KernelIdeal.Scan.run_main (F := Ideal) m g)

/-- The reference runs no transfer and touches no counter, and leaves its argument alone. -/
theorem quiet_reference : Cert.quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run (F := Ideal) m g)

/-- From row blocks of one array, the idealized kernel ends with the row blocks of the reference's result. -/
theorem same_result : Cert.algebraic_KernelIdeal_ReferenceIdeal (hKernelIdeal := Cert.KernelIdeal.Gen.facts)
    (hReferenceIdeal := Cert.ReferenceIdeal.Gen.facts) := fun m g m' g' _ hX =>
  ⟨Cert.KernelIdeal.Scan.refV (m' (((0 : Dev Cert.ReferenceIdeal.nD).tc : Thread Cert.ReferenceIdeal.nD Cert.ReferenceIdeal.τ).loc Cert.ReferenceIdeal.main_arg0)),
    (θ_run _ _ _).mono (fun _ h c => ⟨Cert.KernelIdeal.Scan.res_block m _ hX c _ (h.1 c).2, (h.1 c).1⟩) (Cert.KernelIdeal.Scan.run_main (F := Ideal) m g),
    (θ_run _ _ _).mono (fun _ h => h 0) (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts,
    quiet_kernel, quiet_ideal, quiet_reference, trivial, same_result⟩

end Cert.Proof

end
